-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_drawn [hPre_drawn : Cert.Pre_drawn.Facts] (m : (ℓ : Loc Cert.KernelIdeal.nD Cert.KernelIdeal.τ Cert.KernelIdeal.sig) → Buf (Elt Ideal) ℓ) : Prop :=
  ∀ c : Dev Cert.KernelIdeal.nD,
    (Cert.Pre_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_drawn [hPre_drawn : Cert.Pre_drawn.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_drawn [hKernelIdeal : Cert.KernelIdeal.Facts] [hPre_drawn : Cert.Pre_drawn.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_drawn m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_drawn [hReferenceIdeal : Cert.ReferenceIdeal.Facts] [hPre_drawn : Cert.Pre_drawn.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_drawn m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  IdealRules.bf16_pair.HalfStatement Cert.KernelIdeal.S16x2048
  ∧ IdealRules.bf16_pair.Statement Cert.KernelIdeal.S1024x2048 Cert.KernelIdeal.S512x2048

def algebraic_KernelIdeal_ReferenceIdeal_pre_drawn [hKernelIdeal : Cert.KernelIdeal.Facts] [hReferenceIdeal : Cert.ReferenceIdeal.Facts] [hPre_drawn : Cert.Pre_drawn.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_drawn m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v173) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_drawn : Cert.Pre_drawn.Facts),
    quiescent_Kernel (hKernel := hKernel)
    ∧ quiescent_KernelIdeal (hKernelIdeal := hKernelIdeal)
    ∧ quiescent_KernelIdeal_pre_drawn (hKernelIdeal := hKernelIdeal) (hPre_drawn := hPre_drawn)
    ∧ quiescent_ReferenceIdeal (hReferenceIdeal := hReferenceIdeal)
    ∧ quiescent_ReferenceIdeal_pre_drawn (hReferenceIdeal := hReferenceIdeal) (hPre_drawn := hPre_drawn)
    ∧ preserves_Kernel_KernelIdeal
    ∧ algebraic_KernelIdeal_ReferenceIdeal_pre_drawn (hKernelIdeal := hKernelIdeal) (hReferenceIdeal := hReferenceIdeal) (hPre_drawn := hPre_drawn)
-- ==== Pre_drawn.lean ====
abbrev S2x2048x2048 : Shape := ⟨3, ![2, 2048, 2048]⟩
abbrev S2048x12 : Shape := ⟨2, ![2048, 12]⟩
abbrev S2048x2048 : Shape := ⟨2, ![2048, 2048]⟩
abbrev S2048 : Shape := ⟨1, ![2048]⟩
abbrev S2048x11 : Shape := ⟨2, ![2048, 11]⟩
abbrev S_ : Shape := ⟨0, ![]⟩
abbrev S2048x1 : Shape := ⟨2, ![2048, 1]⟩

class Facts : Prop where
  slices_S2048x12_S2048x11_0_0 : S2048x12.Slices ![0, 0] S2048x11
  slices_S2048x12_S2048x11_0_1 : S2048x12.Slices ![0, 1] S2048x11
  reducesTo_S2048x11_S_d0_1 : S2048x11.ReducesTo [0, 1] S_
  h_S_ : 0 < S_.numel
  slices_S2048x12_S2048x1_0_11 : S2048x12.Slices ![0, 11] S2048x1
  shapeCasts_S2048x1_S2048 : S2048x1.ShapeCasts S2048
  slices_S2048x12_S2048x1_0_0 : S2048x12.Slices ![0, 0] S2048x1
  bcast_S_S2048 : S_.BroadcastsInDim S2048 (![] : Fin 0 → Fin S2048.rank)
  reducesTo_S2048_S_d0 : S2048.ReducesTo [0] S_
  bcast_S_S2048x12 : S_.BroadcastsInDim S2048x12 (![] : Fin 0 → Fin S2048x12.rank)
  reducesTo_S2048x12_S_d0_1 : S2048x12.ReducesTo [0, 1] S_

variable [Facts]

def fn_part1 {F : FTy → Type} [FloatOps F] (main_v3 : IVec S_ 1) (main_v11 : IVec S_ 1) (main_v14 : IVec S_ 1) (main_v17 : IVec S2048x12 1) : IVec S_ 1 :=
  let main_c_4 : IVec S_ 1 := constantI S_ 1 1#1
  let main_v18 : IVec S_ 1 := (fun x v => Host.reduce IntOp.andi x v reducesTo_S2048x12_S_d0_1 h_S_) main_v17 main_c_4
  let main_v19 : IVec S_ 1 := andi main_v3 main_v11
  let main_v20 : IVec S_ 1 := andi main_v19 main_v14
  let main_v21 : IVec S_ 1 := andi main_v20 main_v18
  main_v21

def fn {F : FTy → Type} [FloatOps F] (main_arg0 : FVec F S2x2048x2048 .f32) (main_arg1 : FVec F S2048x12 .f32) (main_arg2 : FVec F S2048x12 .f32) (main_arg3 : FVec F S2048x12 .f32) (main_arg4 : FVec F S2048x12 .f32) (main_arg5 : FVec F S2048x2048 .f32) (main_arg6 : FVec F S2048 .f32) (main_arg7 : FVec F S2048x2048 .f32) : IVec S_ 1 :=
  let main_v0 : FVec F S2048x11 .f32 := (extractStridedSlice S2048x11 ![0, 0] · slices_S2048x12_S2048x11_0_0) main_arg1
  let main_v1 : FVec F S2048x11 .f32 := (extractStridedSlice S2048x11 ![0, 1] · slices_S2048x12_S2048x11_0_1) main_arg1
  let main_v2 : IVec S2048x11 1 := cmpf .ole main_v0 main_v1
  let main_c : IVec S_ 1 := constantI S_ 1 1#1
  let main_v3 : IVec S_ 1 := (fun x v => Host.reduce IntOp.andi x v reducesTo_S2048x11_S_d0_1 h_S_) main_v2 main_c
  let main_v4 : FVec F S2048x1 .f32 := (extractStridedSlice S2048x1 ![0, 11] · slices_S2048x12_S2048x1_0_11) main_arg1
  let main_v5 : FVec F S2048 .f32 := shapeCast S2048 main_v4 shapeCasts_S2048x1_S2048
  let main_v6 : FVec F S2048x1 .f32 := (extractStridedSlice S2048x1 ![0, 0] · slices_S2048x12_S2048x1_0_0) main_arg1
  let main_v7 : FVec F S2048 .f32 := shapeCast S2048 main_v6 shapeCasts_S2048x1_S2048
  let main_v8 : FVec F S2048 .f32 := subf main_v5 main_v7
  let main_cst : FVec F S_ .f32 := constant S_ .f32 0x358637BD#32
  let main_v9 : FVec F S2048 .f32 := broadcastInDim S2048 ![] bcast_S_S2048 main_cst
  let main_v10 : IVec S2048 1 := cmpf .oge main_v8 main_v9
  let main_c_0 : IVec S_ 1 := constantI S_ 1 1#1
  let main_v11 : IVec S_ 1 := (fun x v => Host.reduce IntOp.andi x v reducesTo_S2048_S_d0 h_S_) main_v10 main_c_0
  let main_cst_1 : FVec F S_ .f32 := constant S_ .f32 0x00000000#32
  let main_v12 : FVec F S2048x12 .f32 := broadcastInDim S2048x12 ![] bcast_S_S2048x12 main_cst_1
  let main_v13 : IVec S2048x12 1 := cmpf .oeq main_arg3 main_v12
  let main_c_2 : IVec S_ 1 := constantI S_ 1 1#1
  let main_v14 : IVec S_ 1 := (fun x v => Host.reduce IntOp.andi x v reducesTo_S2048x12_S_d0_1 h_S_) main_v13 main_c_2
  let main_v15 : FVec F S2048x12 .f32 := Host.absf main_arg2
  let main_cst_3 : FVec F S_ .f32 := constant S_ .f32 0x7F800000#32
  let main_v16 : FVec F S2048x12 .f32 := broadcastInDim S2048x12 ![] bcast_S_S2048x12 main_cst_3
  let main_v17 : IVec S2048x12 1 := cmpf .olt main_v15 main_v16
  fn_part1 (F := F) main_v3 main_v11 main_v14 main_v17
-- ==== Kernel.lean ====
abbrev S2x2048x2048 : Shape := ⟨3, ![2, 2048, 2048]⟩
abbrev S2048x12 : Shape := ⟨2, ![2048, 12]⟩
abbrev S2048x2048 : Shape := ⟨2, ![2048, 2048]⟩
abbrev S2048 : Shape := ⟨1, ![2048]⟩
abbrev S_ : Shape := ⟨0, ![]⟩
abbrev S2048x11 : Shape := ⟨2, ![2048, 11]⟩
abbrev S11x2048 : Shape := ⟨2, ![11, 2048]⟩
abbrev S16x2048 : Shape := ⟨2, ![16, 2048]⟩
abbrev S2048x1 : Shape := ⟨2, ![2048, 1]⟩
abbrev S8x2048 : Shape := ⟨2, ![8, 2048]⟩
abbrev S1 : Shape := ⟨1, ![1]⟩
abbrev S4096x2048 : Shape := ⟨2, ![4096, 2048]⟩
abbrev S512x2048 : Shape := ⟨2, ![512, 2048]⟩
abbrev S512x4096 : Shape := ⟨2, ![512, 4096]⟩
abbrev S1x2048 : Shape := ⟨2, ![1, 2048]⟩

abbrev nBuf : Space → Nat
  | .hbm => 63
  | .vmem => 11
  | .smem => 0
  | _ => 0

abbrev bufTy : (tb : Table) → Fin (tcTables nBuf tb) → BufTy
  | .hbm, ⟨0, _⟩ => ⟨S2x2048x2048, .f32⟩
  | .hbm, ⟨1, _⟩ => ⟨S2048x12, .f32⟩
  | .hbm, ⟨2, _⟩ => ⟨S2048x12, .f32⟩
  | .hbm, ⟨3, _⟩ => ⟨S2048x12, .f32⟩
  | .hbm, ⟨4, _⟩ => ⟨S2048x12, .f32⟩
  | .hbm, ⟨5, _⟩ => ⟨S2048x2048, .f32⟩
  | .hbm, ⟨6, _⟩ => ⟨S2048, .f32⟩
  | .hbm, ⟨7, _⟩ => ⟨S2048x2048, .f32⟩
  | .hbm, ⟨8, _⟩ => ⟨S2048x12, .f32⟩
  | .hbm, ⟨9, _⟩ => ⟨S2048x12, .f32⟩
  | .hbm, ⟨10, _⟩ => ⟨S_, .f32⟩
  | .hbm, ⟨11, _⟩ => ⟨S2048x12, .f32⟩
  | .hbm, ⟨12, _⟩ => ⟨S2048x12, .f32⟩
  | .hbm, ⟨13, _⟩ => ⟨S_, .f32⟩
  | .hbm, ⟨14, _⟩ => ⟨S2048x12, .f32⟩
  | .hbm, ⟨15, _⟩ => ⟨S2048x12, .f32⟩
  | .hbm, ⟨16, _⟩ => ⟨S2048x12, .f32⟩
  | .hbm, ⟨17, _⟩ => ⟨S2048x11, .f32⟩
  | .hbm, ⟨18, _⟩ => ⟨S2048x11, .f32⟩
  | .hbm, ⟨19, _⟩ => ⟨S2048x11, .f32⟩
  | .hbm, ⟨20, _⟩ => ⟨S2048x11, .bf16⟩
  | .hbm, ⟨21, _⟩ => ⟨S11x2048, .bf16⟩
  | .hbm, ⟨22, _⟩ => ⟨S_, .i32⟩
  | .hbm, ⟨23, _⟩ => ⟨S_, .bf16⟩
  | .hbm, ⟨24, _⟩ => ⟨S16x2048, .bf16⟩
  | .hbm, ⟨25, _⟩ => ⟨S2048x11, .bf16⟩
  | .hbm, ⟨26, _⟩ => ⟨S11x2048, .bf16⟩
  | .hbm, ⟨27, _⟩ => ⟨S_, .i32⟩
  | .hbm, ⟨28, _⟩ => ⟨S_, .bf16⟩
  | .hbm, ⟨29, _⟩ => ⟨S16x2048, .bf16⟩
  | .hbm, ⟨30, _⟩ => ⟨S2048x1, .f32⟩
  | .hbm, ⟨31, _⟩ => ⟨S2048, .f32⟩
  | .hbm, ⟨32, _⟩ => ⟨S2048x1, .f32⟩
  | .hbm, ⟨33, _⟩ => ⟨S2048, .f32⟩
  | .hbm, ⟨34, _⟩ => ⟨S2048, .f32⟩
  | .hbm, ⟨35, _⟩ => ⟨S_, .f32⟩
  | .hbm, ⟨36, _⟩ => ⟨S_, .f32⟩
  | .hbm, ⟨37, _⟩ => ⟨S2048, .f32⟩
  | .hbm, ⟨38, _⟩ => ⟨S2048, .f32⟩
  | .hbm, ⟨39, _⟩ => ⟨S_, .f32⟩
  | .hbm, ⟨40, _⟩ => ⟨S2048, .f32⟩
  | .hbm, ⟨41, _⟩ => ⟨S2048, .f32⟩
  | .hbm, ⟨42, _⟩ => ⟨S_, .f32⟩
  | .hbm, ⟨43, _⟩ => ⟨S8x2048, .f32⟩
  | .hbm, ⟨44, _⟩ => ⟨S_, .i32⟩
  | .hbm, ⟨45, _⟩ => ⟨S1, .i32⟩
  | .hbm, ⟨46, _⟩ => ⟨S8x2048, .f32⟩
  | .hbm, ⟨47, _⟩ => ⟨S_, .i32⟩
  | .hbm, ⟨48, _⟩ => ⟨S1, .i32⟩
  | .hbm, ⟨49, _⟩ => ⟨S8x2048, .f32⟩
  | .hbm, ⟨50, _⟩ => ⟨S_, .i32⟩
  | .hbm, ⟨51, _⟩ => ⟨S1, .i32⟩
  | .hbm, ⟨52, _⟩ => ⟨S8x2048, .f32⟩
  | .hbm, ⟨53, _⟩ => ⟨S_, .f32⟩
  | .hbm, ⟨54, _⟩ => ⟨S8x2048, .f32⟩
  | .hbm, ⟨55, _⟩ => ⟨S_, .i32⟩
  | .hbm, ⟨56, _⟩ => ⟨S1, .i32⟩
  | .hbm, ⟨57, _⟩ => ⟨S8x2048, .f32⟩
  | .hbm, ⟨58, _⟩ => ⟨S2048x2048, .bf16⟩
  | .hbm, ⟨59, _⟩ => ⟨S2048x2048, .bf16⟩
  | .hbm, ⟨60, _⟩ => ⟨S4096x2048, .bf16⟩
  | .hbm, ⟨61, _⟩ => ⟨S4096x2048, .f32⟩
  | .hbm, ⟨62, _⟩ => ⟨S4096x2048, .f32⟩
  | .local _ .vmem, ⟨0, _⟩ => ⟨S512x2048, .f32⟩
  | .local _ .vmem, ⟨1, _⟩ => ⟨S512x2048, .f32⟩
  | .local _ .vmem, ⟨2, _⟩ => ⟨S8x2048, .f32⟩
  | .local _ .vmem, ⟨3, _⟩ => ⟨S16x2048, .bf16⟩
  | .local _ .vmem, ⟨4, _⟩ => ⟨S16x2048, .bf16⟩
  | .local _ .vmem, ⟨5, _⟩ => ⟨S4096x2048, .bf16⟩
  | .local _ .vmem, ⟨6, _⟩ => ⟨S8x2048, .f32⟩
  | .local _ .vmem, ⟨7, _⟩ => ⟨S512x2048, .f32⟩
  | .local _ .vmem, ⟨8, _⟩ => ⟨S512x2048, .f32⟩
  | .local _ .vmem, ⟨9, _⟩ => ⟨S512x4096, .bf16⟩
  | .local _ .vmem, ⟨10, _⟩ => ⟨S512x4096, .bf16⟩
  | _, _ => ⟨S2x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_c : Ref sig .tc := ⟨.hbm, 22, rfl⟩
abbrev main_call0_v0 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_c_1 : Ref sig .tc := ⟨.hbm, 27, rfl⟩
abbrev main_call1_v0 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_2 : Ref sig .tc := ⟨.hbm, 35, rfl⟩
abbrev main_call2_v0 : Ref sig .tc := ⟨.hbm, 36, rfl⟩
abbrev main_call2_v1 : Ref sig .tc := ⟨.hbm, 37, rfl⟩
abbrev main_v21 : Ref sig .tc := ⟨.hbm, 38, rfl⟩
abbrev main_cst_3 : Ref sig .tc := ⟨.hbm, 39, rfl⟩
abbrev main_v22 : Ref sig .tc := ⟨.hbm, 40, rfl⟩
abbrev main_v23 : Ref sig .tc := ⟨.hbm, 41, rfl⟩
abbrev main_cst_4 : Ref sig .tc := ⟨.hbm, 42, rfl⟩
abbrev main_v24 : Ref sig .tc := ⟨.hbm, 43, rfl⟩
abbrev main_c_5 : Ref sig .tc := ⟨.hbm, 44, rfl⟩
abbrev main_v25 : Ref sig .tc := ⟨.hbm, 45, rfl⟩
abbrev main_v26 : Ref sig .tc := ⟨.hbm, 46, rfl⟩
abbrev main_c_6 : Ref sig .tc := ⟨.hbm, 47, rfl⟩
abbrev main_v27 : Ref sig .tc := ⟨.hbm, 48, rfl⟩
abbrev main_v28 : Ref sig .tc := ⟨.hbm, 49, rfl⟩
abbrev main_c_7 : Ref sig .tc := ⟨.hbm, 50, rfl⟩
abbrev main_v29 : Ref sig .tc := ⟨.hbm, 51, rfl⟩
abbrev main_v30 : Ref sig .tc := ⟨.hbm, 52, rfl⟩
abbrev main_cst_8 : Ref sig .tc := ⟨.hbm, 53, rfl⟩
abbrev main_v31 : Ref sig .tc := ⟨.hbm, 54, rfl⟩
abbrev main_c_9 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [BitOps F]

abbrev grid0 : Pipeline.Grid := ⟨1, ![9], ![false]⟩

def k0_cond1 (i : grid0.Coords) : BitVec 1 :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .ne v2 c0_i32_0
  v3

def k0_cond2 (i : grid0.Coords) : BitVec 1 :=
  let arg0 : BitVec 32 := BitVec.ofNat 32 (i 0).val
  let c2_i32 : BitVec 32 := 2#32
  let v0 : BitVec 32 := Scalar.remsi arg0 c2_i32
  let c1_i32 : BitVec 32 := 1#32
  let v7 : BitVec 1 := Scalar.cmpi .eq v0 c1_i32
  let v8 : BitVec 32 := Scalar.extui v7
  let c0_i32_2 : BitVec 32 := 0#32
  let v9 : BitVec 1 := Scalar.cmpi .ne v8 c0_i32_2
  v9

def k0_cond3 (i : grid0.Coords) : BitVec 1 :=
  let arg0 : BitVec 32 := BitVec.ofNat 32 (i 0).val
  let c2_i32 : BitVec 32 := 2#32
  let v0 : BitVec 32 := Scalar.remsi arg0 c2_i32
  let c0_i32_3 : BitVec 32 := 0#32
  let v10 : BitVec 1 := Scalar.cmpi .eq v0 c0_i32_3
  let v11 : BitVec 32 := Scalar.extui v10
  let c0_i32_4 : BitVec 32 := 0#32
  let v12 : BitVec 1 := Scalar.cmpi .ne v11 c0_i32_4
  v12

def cc0_transform_0 (i : grid0.Coords) : Fin 2 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S16x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4096x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== KernelIdeal.lean ====
abbrev S1024x2048 : Shape := ⟨2, ![1024, 2048]⟩
variable {F : FTy → Type} [FloatOps F]
-- ==== ReferenceIdeal.lean ====
abbrev S2x2048x2048 : Shape := ⟨3, ![2, 2048, 2048]⟩
abbrev S2048x12 : Shape := ⟨2, ![2048, 12]⟩
abbrev S2048x2048 : Shape := ⟨2, ![2048, 2048]⟩
abbrev S2048 : Shape := ⟨1, ![2048]⟩
abbrev S_ : Shape := ⟨0, ![]⟩
abbrev S2048x12x1 : Shape := ⟨3, ![2048, 12, 1]⟩
abbrev S1 : Shape := ⟨1, ![1]⟩
abbrev S1x1x1 : Shape := ⟨3, ![1, 1, 1]⟩
abbrev S4096x2048 : Shape := ⟨2, ![4096, 2048]⟩
abbrev S2048x1 : Shape := ⟨2, ![2048, 1]⟩
abbrev S1x2048 : Shape := ⟨2, ![1, 2048]⟩
abbrev S4096x2048x1 : Shape := ⟨3, ![4096, 2048, 1]⟩
abbrev S4096x2048x2 : Shape := ⟨3, ![4096, 2048, 2]⟩
abbrev S1x1x2048 : Shape := ⟨3, ![1, 1, 2048]⟩

abbrev nBuf : Space → Nat
  | .hbm => 317
  | .vmem => 0
  | .smem => 0
  | _ => 0

abbrev hbmTy0_0 (i : Nat) : BufTy := match i % 128 with
  | 0 => ⟨S2x2048x2048, .f32⟩
  | 1 => ⟨S2048x12, .f32⟩
  | 2 => ⟨S2048x12, .f32⟩
  | 3 => ⟨S2048x12, .f32⟩
  | 4 => ⟨S2048x12, .f32⟩
  | 5 => ⟨S2048x2048, .f32⟩
  | 6 => ⟨S2048, .f32⟩
  | 7 => ⟨S2048x2048, .f32⟩
  | 8 => ⟨S2048x12, .i32⟩
  | 9 => ⟨S2048x12, .f32⟩
  | 10 => ⟨S2048x12, .i32⟩
  | 11 => ⟨S_, .i32⟩
  | 12 => ⟨S2048x12, .i32⟩
  | 13 => ⟨S2048x12, .i1⟩
  | 14 => ⟨S_, .i32⟩
  | 15 => ⟨S2048x12, .i32⟩
  | 16 => ⟨S2048x12, .i32⟩
  | 17 => ⟨S2048x12, .i32⟩
  | 18 => ⟨S2048x12x1, .i32⟩
  | 19 => ⟨S1, .i32⟩
  | 20 => ⟨S_, .i32⟩
  | 21 => ⟨S2048x12x1, .i32⟩
  | 22 => ⟨S2048x12x1, .i1⟩
  | 23 => ⟨S1x1x1, .i32⟩
  | 24 => ⟨S2048x12x1, .i32⟩
  | 25 => ⟨S2048x12x1, .i1⟩
  | 26 => ⟨S2048x12x1, .i1⟩
  | 27 => ⟨S_, .i1⟩
  | 28 => ⟨S2048x12, .i1⟩
  | 29 => ⟨S2048x12, .f32⟩
  | 30 => ⟨S_, .f32⟩
  | 31 => ⟨S2048x12, .f32⟩
  | 32 => ⟨S2048x12, .f32⟩
  | 33 => ⟨S_, .i32⟩
  | 34 => ⟨S2048x12, .i32⟩
  | 35 => ⟨S2048x12, .i1⟩
  | 36 => ⟨S_, .i32⟩
  | 37 => ⟨S2048x12, .i32⟩
  | 38 => ⟨S2048x12, .i32⟩
  | 39 => ⟨S2048x12, .i32⟩
  | 40 => ⟨S2048x12x1, .i32⟩
  | 41 => ⟨S1, .i32⟩
  | 42 => ⟨S_, .i32⟩
  | 43 => ⟨S2048x12x1, .i32⟩
  | 44 => ⟨S2048x12x1, .i1⟩
  | 45 => ⟨S1x1x1, .i32⟩
  | 46 => ⟨S2048x12x1, .i32⟩
  | 47 => ⟨S2048x12x1, .i1⟩
  | 48 => ⟨S2048x12x1, .i1⟩
  | 49 => ⟨S_, .i1⟩
  | 50 => ⟨S2048x12, .i1⟩
  | 51 => ⟨S2048x12, .f32⟩
  | 52 => ⟨S_, .f32⟩
  | 53 => ⟨S2048x12, .f32⟩
  | 54 => ⟨S2048x12, .f32⟩
  | 55 => ⟨S_, .i32⟩
  | 56 => ⟨S2048x12, .i32⟩
  | 57 => ⟨S2048x12, .i1⟩
  | 58 => ⟨S_, .i32⟩
  | 59 => ⟨S2048x12, .i32⟩
  | 60 => ⟨S2048x12, .i32⟩
  | 61 => ⟨S2048x12, .i32⟩
  | 62 => ⟨S2048x12x1, .i32⟩
  | 63 => ⟨S1, .i32⟩
  | 64 => ⟨S_, .i32⟩
  | 65 => ⟨S2048x12x1, .i32⟩
  | 66 => ⟨S2048x12x1, .i1⟩
  | 67 => ⟨S1x1x1, .i32⟩
  | 68 => ⟨S2048x12x1, .i32⟩
  | 69 => ⟨S2048x12x1, .i1⟩
  | 70 => ⟨S2048x12x1, .i1⟩
  | 71 => ⟨S_, .i1⟩
  | 72 => ⟨S2048x12, .i1⟩
  | 73 => ⟨S2048x12, .f32⟩
  | 74 => ⟨S_, .f32⟩
  | 75 => ⟨S2048x12, .f32⟩
  | 76 => ⟨S2048x12, .f32⟩
  | 77 => ⟨S_, .i32⟩
  | 78 => ⟨S2048x12, .i32⟩
  | 79 => ⟨S2048x12, .i1⟩
  | 80 => ⟨S_, .i32⟩
  | 81 => ⟨S2048x12, .i32⟩
  | 82 => ⟨S2048x12, .i32⟩
  | 83 => ⟨S2048x12, .i32⟩
  | 84 => ⟨S2048x12x1, .i32⟩
  | 85 => ⟨S1, .i32⟩
  | 86 => ⟨S_, .i32⟩
  | 87 => ⟨S2048x12x1, .i32⟩
  | 88 => ⟨S2048x12x1, .i1⟩
  | 89 => ⟨S1x1x1, .i32⟩
  | 90 => ⟨S2048x12x1, .i32⟩
  | 91 => ⟨S2048x12x1, .i1⟩
  | 92 => ⟨S2048x12x1, .i1⟩
  | 93 => ⟨S_, .i1⟩
  | 94 => ⟨S2048x12, .i1⟩
  | 95 => ⟨S2048x12, .f32⟩
  | 96 => ⟨S_, .f32⟩
  | 97 => ⟨S2048x12, .f32⟩
  | 98 => ⟨S2048x12, .f32⟩
  | 99 => ⟨S2048x12, .f32⟩
  | 100 => ⟨S2048x12, .f32⟩
  | 101 => ⟨S_, .f32⟩
  | 102 => ⟨S2048x12, .f32⟩
  | 103 => ⟨S2048x12, .f32⟩
  | 104 => ⟨S_, .f32⟩
  | 105 => ⟨S2048x12, .f32⟩
  | 106 => ⟨S2048x12, .f32⟩
  | 107 => ⟨S2048x12, .f32⟩
  | 108 => ⟨S2048x12, .f32⟩
  | 109 => ⟨S4096x2048, .f32⟩
  | 110 => ⟨S2048x1, .f32⟩
  | 111 => ⟨S2048, .f32⟩
  | 112 => ⟨S2048x1, .f32⟩
  | 113 => ⟨S2048, .f32⟩
  | 114 => ⟨S1x2048, .f32⟩
  | 115 => ⟨S4096x2048, .f32⟩
  | 116 => ⟨S4096x2048, .f32⟩
  | 117 => ⟨S1x2048, .f32⟩
  | 118 => ⟨S4096x2048, .f32⟩
  | 119 => ⟨S4096x2048, .f32⟩
  | 120 => ⟨S2048, .f32⟩
  | 121 => ⟨S_, .f32⟩
  | 122 => ⟨S_, .f32⟩
  | 123 => ⟨S2048, .f32⟩
  | 124 => ⟨S2048, .f32⟩
  | 125 => ⟨S1x2048, .f32⟩
  | 126 => ⟨S4096x2048, .f32⟩
  | 127 => ⟨S4096x2048, .f32⟩
  | _ => ⟨S2x2048x2048, .f32⟩

abbrev hbmTy0_1 (i : Nat) : BufTy := match i % 128 with
  | 0 => ⟨S1x2048, .f32⟩
  | 1 => ⟨S4096x2048, .f32⟩
  | 2 => ⟨S4096x2048, .f32⟩
  | 3 => ⟨S_, .f32⟩
  | 4 => ⟨S4096x2048, .f32⟩
  | 5 => ⟨S4096x2048, .f32⟩
  | 6 => ⟨S4096x2048, .i32⟩
  | 7 => ⟨S_, .i32⟩
  | 8 => ⟨S_, .i32⟩
  | 9 => ⟨S_, .i32⟩
  | 10 => ⟨S4096x2048, .i32⟩
  | 11 => ⟨S4096x2048, .i32⟩
  | 12 => ⟨S_, .i32⟩
  | 13 => ⟨S4096x2048, .i32⟩
  | 14 => ⟨S4096x2048, .i32⟩
  | 15 => ⟨S4096x2048, .f32⟩
  | 16 => ⟨S4096x2048, .f32⟩
  | 17 => ⟨S2048, .i32⟩
  | 18 => ⟨S1x2048, .i32⟩
  | 19 => ⟨S_, .i32⟩
  | 20 => ⟨S1x2048, .i32⟩
  | 21 => ⟨S1x2048, .i1⟩
  | 22 => ⟨S_, .i32⟩
  | 23 => ⟨S1x2048, .i32⟩
  | 24 => ⟨S1x2048, .i32⟩
  | 25 => ⟨S1x2048, .i32⟩
  | 26 => ⟨S_, .i32⟩
  | 27 => ⟨S4096x2048, .i32⟩
  | 28 => ⟨S4096x2048, .i1⟩
  | 29 => ⟨S_, .i32⟩
  | 30 => ⟨S4096x2048, .i32⟩
  | 31 => ⟨S4096x2048, .i32⟩
  | 32 => ⟨S4096x2048, .i32⟩
  | 33 => ⟨S4096x2048, .i32⟩
  | 34 => ⟨S4096x2048x1, .i32⟩
  | 35 => ⟨S4096x2048x1, .i32⟩
  | 36 => ⟨S4096x2048x2, .i32⟩
  | 37 => ⟨S4096x2048, .f32⟩
  | 38 => ⟨S_, .i32⟩
  | 39 => ⟨S4096x2048, .i32⟩
  | 40 => ⟨S4096x2048, .i32⟩
  | 41 => ⟨S_, .i32⟩
  | 42 => ⟨S1x2048, .i32⟩
  | 43 => ⟨S1x2048, .i1⟩
  | 44 => ⟨S_, .i32⟩
  | 45 => ⟨S1x2048, .i32⟩
  | 46 => ⟨S1x2048, .i32⟩
  | 47 => ⟨S1x2048, .i32⟩
  | 48 => ⟨S_, .i32⟩
  | 49 => ⟨S4096x2048, .i32⟩
  | 50 => ⟨S4096x2048, .i1⟩
  | 51 => ⟨S_, .i32⟩
  | 52 => ⟨S4096x2048, .i32⟩
  | 53 => ⟨S4096x2048, .i32⟩
  | 54 => ⟨S4096x2048, .i32⟩
  | 55 => ⟨S4096x2048, .i32⟩
  | 56 => ⟨S4096x2048x1, .i32⟩
  | 57 => ⟨S4096x2048x1, .i32⟩
  | 58 => ⟨S4096x2048x2, .i32⟩
  | 59 => ⟨S4096x2048, .f32⟩
  | 60 => ⟨S_, .i32⟩
  | 61 => ⟨S1x2048, .i32⟩
  | 62 => ⟨S1x2048, .i1⟩
  | 63 => ⟨S_, .i32⟩
  | 64 => ⟨S1x2048, .i32⟩
  | 65 => ⟨S1x2048, .i32⟩
  | 66 => ⟨S1x2048, .i32⟩
  | 67 => ⟨S_, .i32⟩
  | 68 => ⟨S4096x2048, .i32⟩
  | 69 => ⟨S4096x2048, .i1⟩
  | 70 => ⟨S_, .i32⟩
  | 71 => ⟨S4096x2048, .i32⟩
  | 72 => ⟨S4096x2048, .i32⟩
  | 73 => ⟨S4096x2048, .i32⟩
  | 74 => ⟨S4096x2048, .i32⟩
  | 75 => ⟨S4096x2048x1, .i32⟩
  | 76 => ⟨S4096x2048x1, .i32⟩
  | 77 => ⟨S4096x2048x2, .i32⟩
  | 78 => ⟨S4096x2048, .f32⟩
  | 79 => ⟨S_, .i32⟩
  | 80 => ⟨S4096x2048, .i32⟩
  | 81 => ⟨S4096x2048, .i32⟩
  | 82 => ⟨S_, .i32⟩
  | 83 => ⟨S1x2048, .i32⟩
  | 84 => ⟨S1x2048, .i1⟩
  | 85 => ⟨S_, .i32⟩
  | 86 => ⟨S1x2048, .i32⟩
  | 87 => ⟨S1x2048, .i32⟩
  | 88 => ⟨S1x2048, .i32⟩
  | 89 => ⟨S_, .i32⟩
  | 90 => ⟨S4096x2048, .i32⟩
  | 91 => ⟨S4096x2048, .i1⟩
  | 92 => ⟨S_, .i32⟩
  | 93 => ⟨S4096x2048, .i32⟩
  | 94 => ⟨S4096x2048, .i32⟩
  | 95 => ⟨S4096x2048, .i32⟩
  | 96 => ⟨S4096x2048, .i32⟩
  | 97 => ⟨S4096x2048x1, .i32⟩
  | 98 => ⟨S4096x2048x1, .i32⟩
  | 99 => ⟨S4096x2048x2, .i32⟩
  | 100 => ⟨S4096x2048, .f32⟩
  | 101 => ⟨S_, .i32⟩
  | 102 => ⟨S1x2048, .i32⟩
  | 103 => ⟨S1x2048, .i1⟩
  | 104 => ⟨S_, .i32⟩
  | 105 => ⟨S1x2048, .i32⟩
  | 106 => ⟨S1x2048, .i32⟩
  | 107 => ⟨S1x2048, .i32⟩
  | 108 => ⟨S_, .i32⟩
  | 109 => ⟨S4096x2048, .i32⟩
  | 110 => ⟨S4096x2048, .i1⟩
  | 111 => ⟨S_, .i32⟩
  | 112 => ⟨S4096x2048, .i32⟩
  | 113 => ⟨S4096x2048, .i32⟩
  | 114 => ⟨S4096x2048, .i32⟩
  | 115 => ⟨S4096x2048, .i32⟩
  | 116 => ⟨S4096x2048x1, .i32⟩
  | 117 => ⟨S4096x2048x1, .i32⟩
  | 118 => ⟨S4096x2048x2, .i32⟩
  | 119 => ⟨S4096x2048, .f32⟩
  | 120 => ⟨S_, .i32⟩
  | 121 => ⟨S4096x2048, .i32⟩
  | 122 => ⟨S4096x2048, .i32⟩
  | 123 => ⟨S_, .i32⟩
  | 124 => ⟨S1x2048, .i32⟩
  | 125 => ⟨S1x2048, .i1⟩
  | 126 => ⟨S_, .i32⟩
  | 127 => ⟨S1x2048, .i32⟩
  | _ => ⟨S2x2048x2048, .f32⟩

abbrev hbmTy0_2 (i : Nat) : BufTy := match i % 128 with
  | 0 => ⟨S1x2048, .i32⟩
  | 1 => ⟨S1x2048, .i32⟩
  | 2 => ⟨S_, .i32⟩
  | 3 => ⟨S4096x2048, .i32⟩
  | 4 => ⟨S4096x2048, .i1⟩
  | 5 => ⟨S_, .i32⟩
  | 6 => ⟨S4096x2048, .i32⟩
  | 7 => ⟨S4096x2048, .i32⟩
  | 8 => ⟨S4096x2048, .i32⟩
  | 9 => ⟨S4096x2048, .i32⟩
  | 10 => ⟨S4096x2048x1, .i32⟩
  | 11 => ⟨S4096x2048x1, .i32⟩
  | 12 => ⟨S4096x2048x2, .i32⟩
  | 13 => ⟨S4096x2048, .f32⟩
  | 14 => ⟨S4096x2048, .f32⟩
  | 15 => ⟨S_, .f32⟩
  | 16 => ⟨S_, .f32⟩
  | 17 => ⟨S4096x2048, .f32⟩
  | 18 => ⟨S4096x2048, .f32⟩
  | 19 => ⟨S4096x2048, .f32⟩
  | 20 => ⟨S4096x2048, .f32⟩
  | 21 => ⟨S_, .f32⟩
  | 22 => ⟨S4096x2048, .f32⟩
  | 23 => ⟨S4096x2048, .f32⟩
  | 24 => ⟨S_, .f32⟩
  | 25 => ⟨S4096x2048, .f32⟩
  | 26 => ⟨S4096x2048, .f32⟩
  | 27 => ⟨S4096x2048, .f32⟩
  | 28 => ⟨S_, .f32⟩
  | 29 => ⟨S4096x2048, .f32⟩
  | 30 => ⟨S4096x2048, .f32⟩
  | 31 => ⟨S_, .f32⟩
  | 32 => ⟨S4096x2048, .f32⟩
  | 33 => ⟨S4096x2048, .f32⟩
  | 34 => ⟨S4096x2048, .f32⟩
  | 35 => ⟨S4096x2048, .f32⟩
  | 36 => ⟨S_, .f32⟩
  | 37 => ⟨S4096x2048, .f32⟩
  | 38 => ⟨S4096x2048, .f32⟩
  | 39 => ⟨S_, .f32⟩
  | 40 => ⟨S4096x2048, .f32⟩
  | 41 => ⟨S4096x2048, .f32⟩
  | 42 => ⟨S4096x2048, .f32⟩
  | 43 => ⟨S4096x2048, .f32⟩
  | 44 => ⟨S4096x2048, .f32⟩
  | 45 => ⟨S4096x2048, .f32⟩
  | 46 => ⟨S4096x2048, .f32⟩
  | 47 => ⟨S4096x2048, .f32⟩
  | 48 => ⟨S4096x2048, .f32⟩
  | 49 => ⟨S4096x2048, .f32⟩
  | 50 => ⟨S4096x2048, .f32⟩
  | 51 => ⟨S4096x2048, .f32⟩
  | 52 => ⟨S4096x2048, .f32⟩
  | 53 => ⟨S2x2048x2048, .f32⟩
  | 54 => ⟨S2x2048x2048, .f32⟩
  | 55 => ⟨S1x1x2048, .f32⟩
  | 56 => ⟨S2x2048x2048, .f32⟩
  | 57 => ⟨S2x2048x2048, .f32⟩
  | 58 => ⟨S2x2048x2048, .f32⟩
  | 59 => ⟨S2x2048x2048, .f32⟩
  | 60 => ⟨S4096x2048, .f32⟩
  | _ => ⟨S2x2048x2048, .f32⟩

abbrev hbmTy (i : Nat) : BufTy := match i / 128 with
  | 0 => hbmTy0_0 i
  | 1 => hbmTy0_1 i
  | 2 => hbmTy0_2 i
  | _ => ⟨S2x2048x2048, .f32⟩

abbrev bufTy : (tb : Table) → Fin (tcTables nBuf tb) → BufTy
  | .hbm, ⟨i, _⟩ => hbmTy i
  | _, _ => ⟨S2x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_call0_v0 : Ref sig .tc := ⟨.hbm, 8, rfl⟩
abbrev main_call0_v1_0 : Ref sig .tc := ⟨.hbm, 9, rfl⟩
abbrev main_v0 : Ref sig .tc := ⟨.hbm, 10, rfl⟩
abbrev main_call1_c : Ref sig .tc := ⟨.hbm, 11, rfl⟩
abbrev main_call1_v0 : Ref sig .tc := ⟨.hbm, 12, rfl⟩
abbrev main_call1_v1 : Ref sig .tc := ⟨.hbm, 13, rfl⟩
abbrev main_call1_c_0 : Ref sig .tc := ⟨.hbm, 14, rfl⟩
abbrev main_call1_v2 : Ref sig .tc := ⟨.hbm, 15, rfl⟩
abbrev main_call1_v3 : Ref sig .tc := ⟨.hbm, 16, rfl⟩
abbrev main_call1_v4 : Ref sig .tc := ⟨.hbm, 17, rfl⟩
abbrev main_call1_v5 : Ref sig .tc := ⟨.hbm, 18, rfl⟩
abbrev main_call1_c_1 : Ref sig .tc := ⟨.hbm, 19, rfl⟩
abbrev main_call1_c_2 : Ref sig .tc := ⟨.hbm, 20, rfl⟩
abbrev main_call1_v6 : Ref sig .tc := ⟨.hbm, 21, rfl⟩
abbrev main_call1_v7 : Ref sig .tc := ⟨.hbm, 22, rfl⟩
abbrev main_call1_v8 : Ref sig .tc := ⟨.hbm, 23, rfl⟩
abbrev main_call1_v9 : Ref sig .tc := ⟨.hbm, 24, rfl⟩
abbrev main_call1_v10 : Ref sig .tc := ⟨.hbm, 25, rfl⟩
abbrev main_call1_v11 : Ref sig .tc := ⟨.hbm, 26, rfl⟩
abbrev main_call1_c_3 : Ref sig .tc := ⟨.hbm, 27, rfl⟩
abbrev main_call1_v12 : Ref sig .tc := ⟨.hbm, 28, rfl⟩
abbrev main_call1_v13 : Ref sig .tc := ⟨.hbm, 29, rfl⟩
abbrev main_call1_cst : Ref sig .tc := ⟨.hbm, 30, rfl⟩
abbrev main_call1_v14 : Ref sig .tc := ⟨.hbm, 31, rfl⟩
abbrev main_v1 : Ref sig .tc := ⟨.hbm, 32, rfl⟩
abbrev main_call2_c : Ref sig .tc := ⟨.hbm, 33, rfl⟩
abbrev main_call2_v0 : Ref sig .tc := ⟨.hbm, 34, rfl⟩
abbrev main_call2_v1 : Ref sig .tc := ⟨.hbm, 35, rfl⟩
abbrev main_call2_c_0 : Ref sig .tc := ⟨.hbm, 36, rfl⟩
abbrev main_call2_v2 : Ref sig .tc := ⟨.hbm, 37, rfl⟩
abbrev main_call2_v3 : Ref sig .tc := ⟨.hbm, 38, rfl⟩
abbrev main_call2_v4 : Ref sig .tc := ⟨.hbm, 39, rfl⟩
abbrev main_call2_v5 : Ref sig .tc := ⟨.hbm, 40, rfl⟩
abbrev main_call2_c_1 : Ref sig .tc := ⟨.hbm, 41, rfl⟩
abbrev main_call2_c_2 : Ref sig .tc := ⟨.hbm, 42, rfl⟩
abbrev main_call2_v6 : Ref sig .tc := ⟨.hbm, 43, rfl⟩
abbrev main_call2_v7 : Ref sig .tc := ⟨.hbm, 44, rfl⟩
abbrev main_call2_v8 : Ref sig .tc := ⟨.hbm, 45, rfl⟩
abbrev main_call2_v9 : Ref sig .tc := ⟨.hbm, 46, rfl⟩
abbrev main_call2_v10 : Ref sig .tc := ⟨.hbm, 47, rfl⟩
abbrev main_call2_v11 : Ref sig .tc := ⟨.hbm, 48, rfl⟩
abbrev main_call2_c_3 : Ref sig .tc := ⟨.hbm, 49, rfl⟩
abbrev main_call2_v12 : Ref sig .tc := ⟨.hbm, 50, rfl⟩
abbrev main_call2_v13 : Ref sig .tc := ⟨.hbm, 51, rfl⟩
abbrev main_call2_cst : Ref sig .tc := ⟨.hbm, 52, rfl⟩
abbrev main_call2_v14 : Ref sig .tc := ⟨.hbm, 53, rfl⟩
abbrev main_v2 : Ref sig .tc := ⟨.hbm, 54, rfl⟩
abbrev main_call3_c : Ref sig .tc := ⟨.hbm, 55, rfl⟩
abbrev main_call3_v0 : Ref sig .tc := ⟨.hbm, 56, rfl⟩
abbrev main_call3_v1 : Ref sig .tc := ⟨.hbm, 57, rfl⟩
abbrev main_call3_c_0 : Ref sig .tc := ⟨.hbm, 58, rfl⟩
abbrev main_call3_v2 : Ref sig .tc := ⟨.hbm, 59, rfl⟩
abbrev main_call3_v3 : Ref sig .tc := ⟨.hbm, 60, rfl⟩
abbrev main_call3_v4 : Ref sig .tc := ⟨.hbm, 61, rfl⟩
abbrev main_call3_v5 : Ref sig .tc := ⟨.hbm, 62, rfl⟩
abbrev main_call3_c_1 : Ref sig .tc := ⟨.hbm, 63, rfl⟩
abbrev main_call3_c_2 : Ref sig .tc := ⟨.hbm, 64, rfl⟩
abbrev main_call3_v6 : Ref sig .tc := ⟨.hbm, 65, rfl⟩
abbrev main_call3_v7 : Ref sig .tc := ⟨.hbm, 66, rfl⟩
abbrev main_call3_v8 : Ref sig .tc := ⟨.hbm, 67, rfl⟩
abbrev main_call3_v9 : Ref sig .tc := ⟨.hbm, 68, rfl⟩
abbrev main_call3_v10 : Ref sig .tc := ⟨.hbm, 69, rfl⟩
abbrev main_call3_v11 : Ref sig .tc := ⟨.hbm, 70, rfl⟩
abbrev main_call3_c_3 : Ref sig .tc := ⟨.hbm, 71, rfl⟩
abbrev main_call3_v12 : Ref sig .tc := ⟨.hbm, 72, rfl⟩
abbrev main_call3_v13 : Ref sig .tc := ⟨.hbm, 73, rfl⟩
abbrev main_call3_cst : Ref sig .tc := ⟨.hbm, 74, rfl⟩
abbrev main_call3_v14 : Ref sig .tc := ⟨.hbm, 75, rfl⟩
abbrev main_v3 : Ref sig .tc := ⟨.hbm, 76, rfl⟩
abbrev main_call4_c : Ref sig .tc := ⟨.hbm, 77, rfl⟩
abbrev main_call4_v0 : Ref sig .tc := ⟨.hbm, 78, rfl⟩
abbrev main_call4_v1 : Ref sig .tc := ⟨.hbm, 79, rfl⟩
abbrev main_call4_c_0 : Ref sig .tc := ⟨.hbm, 80, rfl⟩
abbrev main_call4_v2 : Ref sig .tc := ⟨.hbm, 81, rfl⟩
abbrev main_call4_v3 : Ref sig .tc := ⟨.hbm, 82, rfl⟩
abbrev main_call4_v4 : Ref sig .tc := ⟨.hbm, 83, rfl⟩
abbrev main_call4_v5 : Ref sig .tc := ⟨.hbm, 84, rfl⟩
abbrev main_call4_c_1 : Ref sig .tc := ⟨.hbm, 85, rfl⟩
abbrev main_call4_c_2 : Ref sig .tc := ⟨.hbm, 86, rfl⟩
abbrev main_call4_v6 : Ref sig .tc := ⟨.hbm, 87, rfl⟩
abbrev main_call4_v7 : Ref sig .tc := ⟨.hbm, 88, rfl⟩
abbrev main_call4_v8 : Ref sig .tc := ⟨.hbm, 89, rfl⟩
abbrev main_call4_v9 : Ref sig .tc := ⟨.hbm, 90, rfl⟩
abbrev main_call4_v10 : Ref sig .tc := ⟨.hbm, 91, rfl⟩
abbrev main_call4_v11 : Ref sig .tc := ⟨.hbm, 92, rfl⟩
abbrev main_call4_c_3 : Ref sig .tc := ⟨.hbm, 93, rfl⟩
abbrev main_call4_v12 : Ref sig .tc := ⟨.hbm, 94, rfl⟩
abbrev main_call4_v13 : Ref sig .tc := ⟨.hbm, 95, rfl⟩
abbrev main_call4_cst : Ref sig .tc := ⟨.hbm, 96, rfl⟩
abbrev main_call4_v14 : Ref sig .tc := ⟨.hbm, 97, rfl⟩
abbrev main_v4 : Ref sig .tc := ⟨.hbm, 98, rfl⟩
abbrev main_v5 : Ref sig .tc := ⟨.hbm, 99, rfl⟩
abbrev main_v6 : Ref sig .tc := ⟨.hbm, 100, rfl⟩
abbrev main_cst : Ref sig .tc := ⟨.hbm, 101, rfl⟩
abbrev main_v7 : Ref sig .tc := ⟨.hbm, 102, rfl⟩
abbrev main_v8 : Ref sig .tc := ⟨.hbm, 103, rfl⟩
abbrev main_cst_0 : Ref sig .tc := ⟨.hbm, 104, rfl⟩
abbrev main_v9 : Ref sig .tc := ⟨.hbm, 105, rfl⟩
abbrev main_v10 : Ref sig .tc := ⟨.hbm, 106, rfl⟩
abbrev main_v11 : Ref sig .tc := ⟨.hbm, 107, rfl⟩
abbrev main_v12 : Ref sig .tc := ⟨.hbm, 108, rfl⟩
abbrev main_v13 : Ref sig .tc := ⟨.hbm, 109, rfl⟩
abbrev main_v14 : Ref sig .tc := ⟨.hbm, 110, rfl⟩
abbrev main_v15 : Ref sig .tc := ⟨.hbm, 111, rfl⟩
abbrev main_v16 : Ref sig .tc := ⟨.hbm, 112, rfl⟩
abbrev main_v17 : Ref sig .tc := ⟨.hbm, 113, rfl⟩
abbrev main_v18 : Ref sig .tc := ⟨.hbm, 114, rfl⟩
abbrev main_v19 : Ref sig .tc := ⟨.hbm, 115, rfl⟩
abbrev main_v20 : Ref sig .tc := ⟨.hbm, 116, rfl⟩
abbrev main_v21 : Ref sig .tc := ⟨.hbm, 117, rfl⟩
abbrev main_v22 : Ref sig .tc := ⟨.hbm, 118, rfl⟩
abbrev main_v23 : Ref sig .tc := ⟨.hbm, 119, rfl⟩
abbrev main_v24 : Ref sig .tc := ⟨.hbm, 120, rfl⟩
abbrev main_cst_1 : Ref sig .tc := ⟨.hbm, 121, rfl⟩
abbrev main_call5_v0 : Ref sig .tc := ⟨.hbm, 122, rfl⟩
abbrev main_call5_v1 : Ref sig .tc := ⟨.hbm, 123, rfl⟩
abbrev main_v25 : Ref sig .tc := ⟨.hbm, 124, rfl⟩
abbrev main_v26 : Ref sig .tc := ⟨.hbm, 125, rfl⟩
abbrev main_v27 : Ref sig .tc := ⟨.hbm, 126, rfl⟩
abbrev main_v28 : Ref sig .tc := ⟨.hbm, 127, rfl⟩
abbrev main_v29 : Ref sig .tc := ⟨.hbm, 128, rfl⟩
abbrev main_v30 : Ref sig .tc := ⟨.hbm, 129, rfl⟩
abbrev main_v31 : Ref sig .tc := ⟨.hbm, 130, rfl⟩
abbrev main_cst_2 : Ref sig .tc := ⟨.hbm, 131, rfl⟩
abbrev main_v32 : Ref sig .tc := ⟨.hbm, 132, rfl⟩
abbrev main_v33 : Ref sig .tc := ⟨.hbm, 133, rfl⟩
abbrev main_v34 : Ref sig .tc := ⟨.hbm, 134, rfl⟩
abbrev main_c : Ref sig .tc := ⟨.hbm, 135, rfl⟩
abbrev main_c_3 : Ref sig .tc := ⟨.hbm, 136, rfl⟩
abbrev main_call6_v0 : Ref sig .tc := ⟨.hbm, 137, rfl⟩
abbrev main_call6_v1 : Ref sig .tc := ⟨.hbm, 138, rfl⟩
abbrev main_call6_v2 : Ref sig .tc := ⟨.hbm, 139, rfl⟩
abbrev main_call6_v3 : Ref sig .tc := ⟨.hbm, 140, rfl⟩
abbrev main_call6_v4 : Ref sig .tc := ⟨.hbm, 141, rfl⟩
abbrev main_v35 : Ref sig .tc := ⟨.hbm, 142, rfl⟩
abbrev main_v36 : Ref sig .tc := ⟨.hbm, 143, rfl⟩
abbrev main_v37 : Ref sig .tc := ⟨.hbm, 144, rfl⟩
abbrev main_v38 : Ref sig .tc := ⟨.hbm, 145, rfl⟩
abbrev main_v39 : Ref sig .tc := ⟨.hbm, 146, rfl⟩
abbrev main_c_4 : Ref sig .tc := ⟨.hbm, 147, rfl⟩
abbrev main_v40 : Ref sig .tc := ⟨.hbm, 148, rfl⟩
abbrev main_v41 : Ref sig .tc := ⟨.hbm, 149, rfl⟩
abbrev main_c_5 : Ref sig .tc := ⟨.hbm, 150, rfl⟩
abbrev main_v42 : Ref sig .tc := ⟨.hbm, 151, rfl⟩
abbrev main_v43 : Ref sig .tc := ⟨.hbm, 152, rfl⟩
abbrev main_v44 : Ref sig .tc := ⟨.hbm, 153, rfl⟩
abbrev main_c_6 : Ref sig .tc := ⟨.hbm, 154, rfl⟩
abbrev main_v45 : Ref sig .tc := ⟨.hbm, 155, rfl⟩
abbrev main_v46 : Ref sig .tc := ⟨.hbm, 156, rfl⟩
abbrev main_c_7 : Ref sig .tc := ⟨.hbm, 157, rfl⟩
abbrev main_v47 : Ref sig .tc := ⟨.hbm, 158, rfl⟩
abbrev main_v48 : Ref sig .tc := ⟨.hbm, 159, rfl⟩
abbrev main_v49 : Ref sig .tc := ⟨.hbm, 160, rfl⟩
abbrev main_v50 : Ref sig .tc := ⟨.hbm, 161, rfl⟩
abbrev main_v51 : Ref sig .tc := ⟨.hbm, 162, rfl⟩
abbrev main_v52 : Ref sig .tc := ⟨.hbm, 163, rfl⟩
abbrev main_v53 : Ref sig .tc := ⟨.hbm, 164, rfl⟩
abbrev main_v54 : Ref sig .tc := ⟨.hbm, 165, rfl⟩
abbrev main_c_8 : Ref sig .tc := ⟨.hbm, 166, rfl⟩
abbrev main_v55 : Ref sig .tc := ⟨.hbm, 167, rfl⟩
abbrev main_v56 : Ref sig .tc := ⟨.hbm, 168, rfl⟩
abbrev main_c_9 : Ref sig .tc := ⟨.hbm, 169, rfl⟩
abbrev main_v57 : Ref sig .tc := ⟨.hbm, 170, rfl⟩
abbrev main_v58 : Ref sig .tc := ⟨.hbm, 171, rfl⟩
abbrev main_c_10 : Ref sig .tc := ⟨.hbm, 172, rfl⟩
abbrev main_v59 : Ref sig .tc := ⟨.hbm, 173, rfl⟩
abbrev main_v60 : Ref sig .tc := ⟨.hbm, 174, rfl⟩
abbrev main_v61 : Ref sig .tc := ⟨.hbm, 175, rfl⟩
abbrev main_c_11 : Ref sig .tc := ⟨.hbm, 176, rfl⟩
abbrev main_v62 : Ref sig .tc := ⟨.hbm, 177, rfl⟩
abbrev main_v63 : Ref sig .tc := ⟨.hbm, 178, rfl⟩
abbrev main_c_12 : Ref sig .tc := ⟨.hbm, 179, rfl⟩
abbrev main_v64 : Ref sig .tc := ⟨.hbm, 180, rfl⟩
abbrev main_v65 : Ref sig .tc := ⟨.hbm, 181, rfl⟩
abbrev main_v66 : Ref sig .tc := ⟨.hbm, 182, rfl⟩
abbrev main_v67 : Ref sig .tc := ⟨.hbm, 183, rfl⟩
abbrev main_v68 : Ref sig .tc := ⟨.hbm, 184, rfl⟩
abbrev main_v69 : Ref sig .tc := ⟨.hbm, 185, rfl⟩
abbrev main_v70 : Ref sig .tc := ⟨.hbm, 186, rfl⟩
abbrev main_v71 : Ref sig .tc := ⟨.hbm, 187, rfl⟩
abbrev main_c_13 : Ref sig .tc := ⟨.hbm, 188, rfl⟩
abbrev main_v72 : Ref sig .tc := ⟨.hbm, 189, rfl⟩
abbrev main_v73 : Ref sig .tc := ⟨.hbm, 190, rfl⟩
abbrev main_c_14 : Ref sig .tc := ⟨.hbm, 191, rfl⟩
abbrev main_v74 : Ref sig .tc := ⟨.hbm, 192, rfl⟩
abbrev main_v75 : Ref sig .tc := ⟨.hbm, 193, rfl⟩
abbrev main_v76 : Ref sig .tc := ⟨.hbm, 194, rfl⟩
abbrev main_c_15 : Ref sig .tc := ⟨.hbm, 195, rfl⟩
abbrev main_v77 : Ref sig .tc := ⟨.hbm, 196, rfl⟩
abbrev main_v78 : Ref sig .tc := ⟨.hbm, 197, rfl⟩
abbrev main_c_16 : Ref sig .tc := ⟨.hbm, 198, rfl⟩
abbrev main_v79 : Ref sig .tc := ⟨.hbm, 199, rfl⟩
abbrev main_v80 : Ref sig .tc := ⟨.hbm, 200, rfl⟩
abbrev main_v81 : Ref sig .tc := ⟨.hbm, 201, rfl⟩
abbrev main_v82 : Ref sig .tc := ⟨.hbm, 202, rfl⟩
abbrev main_v83 : Ref sig .tc := ⟨.hbm, 203, rfl⟩
abbrev main_v84 : Ref sig .tc := ⟨.hbm, 204, rfl⟩
abbrev main_v85 : Ref sig .tc := ⟨.hbm, 205, rfl⟩
abbrev main_v86 : Ref sig .tc := ⟨.hbm, 206, rfl⟩
abbrev main_c_17 : Ref sig .tc := ⟨.hbm, 207, rfl⟩
abbrev main_v87 : Ref sig .tc := ⟨.hbm, 208, rfl⟩
abbrev main_v88 : Ref sig .tc := ⟨.hbm, 209, rfl⟩
abbrev main_c_18 : Ref sig .tc := ⟨.hbm, 210, rfl⟩
abbrev main_v89 : Ref sig .tc := ⟨.hbm, 211, rfl⟩
abbrev main_v90 : Ref sig .tc := ⟨.hbm, 212, rfl⟩
abbrev main_c_19 : Ref sig .tc := ⟨.hbm, 213, rfl⟩
abbrev main_v91 : Ref sig .tc := ⟨.hbm, 214, rfl⟩
abbrev main_v92 : Ref sig .tc := ⟨.hbm, 215, rfl⟩
abbrev main_v93 : Ref sig .tc := ⟨.hbm, 216, rfl⟩
abbrev main_c_20 : Ref sig .tc := ⟨.hbm, 217, rfl⟩
abbrev main_v94 : Ref sig .tc := ⟨.hbm, 218, rfl⟩
abbrev main_v95 : Ref sig .tc := ⟨.hbm, 219, rfl⟩
abbrev main_c_21 : Ref sig .tc := ⟨.hbm, 220, rfl⟩
abbrev main_v96 : Ref sig .tc := ⟨.hbm, 221, rfl⟩
abbrev main_v97 : Ref sig .tc := ⟨.hbm, 222, rfl⟩
abbrev main_v98 : Ref sig .tc := ⟨.hbm, 223, rfl⟩
abbrev main_v99 : Ref sig .tc := ⟨.hbm, 224, rfl⟩
abbrev main_v100 : Ref sig .tc := ⟨.hbm, 225, rfl⟩
abbrev main_v101 : Ref sig .tc := ⟨.hbm, 226, rfl⟩
abbrev main_v102 : Ref sig .tc := ⟨.hbm, 227, rfl⟩
abbrev main_v103 : Ref sig .tc := ⟨.hbm, 228, rfl⟩
abbrev main_c_22 : Ref sig .tc := ⟨.hbm, 229, rfl⟩
abbrev main_v104 : Ref sig .tc := ⟨.hbm, 230, rfl⟩
abbrev main_v105 : Ref sig .tc := ⟨.hbm, 231, rfl⟩
abbrev main_c_23 : Ref sig .tc := ⟨.hbm, 232, rfl⟩
abbrev main_v106 : Ref sig .tc := ⟨.hbm, 233, rfl⟩
abbrev main_v107 : Ref sig .tc := ⟨.hbm, 234, rfl⟩
abbrev main_v108 : Ref sig .tc := ⟨.hbm, 235, rfl⟩
abbrev main_c_24 : Ref sig .tc := ⟨.hbm, 236, rfl⟩
abbrev main_v109 : Ref sig .tc := ⟨.hbm, 237, rfl⟩
abbrev main_v110 : Ref sig .tc := ⟨.hbm, 238, rfl⟩
abbrev main_c_25 : Ref sig .tc := ⟨.hbm, 239, rfl⟩
abbrev main_v111 : Ref sig .tc := ⟨.hbm, 240, rfl⟩
abbrev main_v112 : Ref sig .tc := ⟨.hbm, 241, rfl⟩
abbrev main_v113 : Ref sig .tc := ⟨.hbm, 242, rfl⟩
abbrev main_v114 : Ref sig .tc := ⟨.hbm, 243, rfl⟩
abbrev main_v115 : Ref sig .tc := ⟨.hbm, 244, rfl⟩
abbrev main_v116 : Ref sig .tc := ⟨.hbm, 245, rfl⟩
abbrev main_v117 : Ref sig .tc := ⟨.hbm, 246, rfl⟩
abbrev main_v118 : Ref sig .tc := ⟨.hbm, 247, rfl⟩
abbrev main_c_26 : Ref sig .tc := ⟨.hbm, 248, rfl⟩
abbrev main_v119 : Ref sig .tc := ⟨.hbm, 249, rfl⟩
abbrev main_v120 : Ref sig .tc := ⟨.hbm, 250, rfl⟩
abbrev main_c_27 : Ref sig .tc := ⟨.hbm, 251, rfl⟩
abbrev main_v121 : Ref sig .tc := ⟨.hbm, 252, rfl⟩
abbrev main_v122 : Ref sig .tc := ⟨.hbm, 253, rfl⟩
abbrev main_c_28 : Ref sig .tc := ⟨.hbm, 254, rfl⟩
abbrev main_v123 : Ref sig .tc := ⟨.hbm, 255, rfl⟩
abbrev main_v124 : Ref sig .tc := ⟨.hbm, 256, rfl⟩
abbrev main_v125 : Ref sig .tc := ⟨.hbm, 257, rfl⟩
abbrev main_c_29 : Ref sig .tc := ⟨.hbm, 258, rfl⟩
abbrev main_v126 : Ref sig .tc := ⟨.hbm, 259, rfl⟩
abbrev main_v127 : Ref sig .tc := ⟨.hbm, 260, rfl⟩
abbrev main_c_30 : Ref sig .tc := ⟨.hbm, 261, rfl⟩
abbrev main_v128 : Ref sig .tc := ⟨.hbm, 262, rfl⟩
abbrev main_v129 : Ref sig .tc := ⟨.hbm, 263, rfl⟩
abbrev main_v130 : Ref sig .tc := ⟨.hbm, 264, rfl⟩
abbrev main_v131 : Ref sig .tc := ⟨.hbm, 265, rfl⟩
abbrev main_v132 : Ref sig .tc := ⟨.hbm, 266, rfl⟩
abbrev main_v133 : Ref sig .tc := ⟨.hbm, 267, rfl⟩
abbrev main_v134 : Ref sig .tc := ⟨.hbm, 268, rfl⟩
abbrev main_v135 : Ref sig .tc := ⟨.hbm, 269, rfl⟩
abbrev main_v136 : Ref sig .tc := ⟨.hbm, 270, rfl⟩
abbrev main_cst_31 : Ref sig .tc := ⟨.hbm, 271, rfl⟩
abbrev main_call7_v0 : Ref sig .tc := ⟨.hbm, 272, rfl⟩
abbrev main_call7_v1 : Ref sig .tc := ⟨.hbm, 273, rfl⟩
abbrev main_v137 : Ref sig .tc := ⟨.hbm, 274, rfl⟩
abbrev main_v138 : Ref sig .tc := ⟨.hbm, 275, rfl⟩
abbrev main_v139 : Ref sig .tc := ⟨.hbm, 276, rfl⟩
abbrev main_cst_32 : Ref sig .tc := ⟨.hbm, 277, rfl⟩
abbrev main_v140 : Ref sig .tc := ⟨.hbm, 278, rfl⟩
abbrev main_v141 : Ref sig .tc := ⟨.hbm, 279, rfl⟩
abbrev main_cst_33 : Ref sig .tc := ⟨.hbm, 280, rfl⟩
abbrev main_v142 : Ref sig .tc := ⟨.hbm, 281, rfl⟩
abbrev main_v143 : Ref sig .tc := ⟨.hbm, 282, rfl⟩
abbrev main_v144 : Ref sig .tc := ⟨.hbm, 283, rfl⟩
abbrev main_cst_34 : Ref sig .tc := ⟨.hbm, 284, rfl⟩
abbrev main_v145 : Ref sig .tc := ⟨.hbm, 285, rfl⟩
abbrev main_v146 : Ref sig .tc := ⟨.hbm, 286, rfl⟩
abbrev main_cst_35 : Ref sig .tc := ⟨.hbm, 287, rfl⟩
abbrev main_v147 : Ref sig .tc := ⟨.hbm, 288, rfl⟩
abbrev main_v148 : Ref sig .tc := ⟨.hbm, 289, rfl⟩
abbrev main_v149 : Ref sig .tc := ⟨.hbm, 290, rfl⟩
abbrev main_v150 : Ref sig .tc := ⟨.hbm, 291, rfl⟩
abbrev main_cst_36 : Ref sig .tc := ⟨.hbm, 292, rfl⟩
abbrev main_v151 : Ref sig .tc := ⟨.hbm, 293, rfl⟩
abbrev main_v152 : Ref sig .tc := ⟨.hbm, 294, rfl⟩
abbrev main_cst_37 : Ref sig .tc := ⟨.hbm, 295, rfl⟩
abbrev main_v153 : Ref sig .tc := ⟨.hbm, 296, rfl⟩
abbrev main_v154 : Ref sig .tc := ⟨.hbm, 297, rfl⟩
abbrev main_v155 : Ref sig .tc := ⟨.hbm, 298, rfl⟩
abbrev main_v156 : Ref sig .tc := ⟨.hbm, 299, rfl⟩
abbrev main_v157 : Ref sig .tc := ⟨.hbm, 300, rfl⟩
abbrev main_v158 : Ref sig .tc := ⟨.hbm, 301, rfl⟩
abbrev main_v159 : Ref sig .tc := ⟨.hbm, 302, rfl⟩
abbrev main_v160 : Ref sig .tc := ⟨.hbm, 303, rfl⟩
abbrev main_v161 : Ref sig .tc := ⟨.hbm, 304, rfl⟩
abbrev main_v162 : Ref sig .tc := ⟨.hbm, 305, rfl⟩
abbrev main_v163 : Ref sig .tc := ⟨.hbm, 306, rfl⟩
abbrev main_v164 : Ref sig .tc := ⟨.hbm, 307, rfl⟩
abbrev main_v165 : Ref sig .tc := ⟨.hbm, 308, rfl⟩
abbrev main_v166 : Ref sig .tc := ⟨.hbm, 309, rfl⟩
abbrev main_v167 : Ref sig .tc := ⟨.hbm, 310, rfl⟩
abbrev main_v168 : Ref sig .tc := ⟨.hbm, 311, rfl⟩
abbrev main_v169 : Ref sig .tc := ⟨.hbm, 312, rfl⟩
abbrev main_v170 : Ref sig .tc := ⟨.hbm, 313, rfl⟩
abbrev main_v171 : Ref sig .tc := ⟨.hbm, 314, rfl⟩
abbrev main_v172 : Ref sig .tc := ⟨.hbm, 315, rfl⟩
abbrev main_v173 : Ref sig .tc := ⟨.hbm, 316, rfl⟩

abbrev nD : Nat := 1
abbrev τ : Topo := Topo.v7x

variable {F : FTy → Type} [FloatOps F]
-- ==== Proof.Blocks.lean ====
/- Blocks and the loads and stores that move them, whatever the program: a row of a table, two blocks side by side. -/
module

public import Idealize.ShloMosaic.Lib.VecWindow
public import Idealize.ShloMosaic.Lib.WholeRead
public import Idealize.ShloMosaic.Lib.WritesUnit
public import Idealize.ShloMosaic.Lib.Pointwise

@[expose] public section

set_option maxRecDepth 16384

noncomputable section

namespace Cert.Blocks

open Idealize.ShloMosaic Idealize.ShloMosaic.TcCoe

variable {F : FTy → Type} {sig : RefSig}

/-- The shapes of a table, of one of its rows, of a block and of a scratch buffer. -/
abbrev S8x2048 : Shape := ⟨2, ![8, 2048]⟩
abbrev S1x2048 : Shape := ⟨2, ![1, 2048]⟩
abbrev S512x2048 : Shape := ⟨2, ![512, 2048]⟩
abbrev S512x4096 : Shape := ⟨2, ![512, 4096]⟩

/-- Row `r` of an eight-row table, as the body loads it. -/
def rowAt (x : Vec F S8x2048 .f32) (r : Fin 8) : Vec F S1x2048 .f32 := fun y => x (ix2 r ⟨(y 1).val, (y 1).isLt⟩)

/-- Two blocks side by side. -/
def beside (u w : Vec F S512x2048 .bf16) : Vec F S512x4096 .bf16 := fun y =>
  if h : (y 1).val < 2048 then u (ix2 (⟨(y 0).val, (y 0).isLt⟩ : Fin 512) (⟨(y 1).val, h⟩ : Fin 2048)) else w (ix2 (⟨(y 0).val, (y 0).isLt⟩ : Fin 512) (⟨(y 1).val - 2048, by have : (y 1).val < 4096 := (y 1).isLt; omega⟩ : Fin 2048))

/-- A load of row `r` reads that row. -/
theorem load_row {mr : Memref sig .tc .vmem S8x2048 .f32} (h : mr.IsWhole) (x : Vec F S8x2048 .f32) (r : Fin 8) (o : ℕ) (ho : o = r.val)
    (inb : ∀ a, (![o, 0] : Fin 2 → ℕ) a + S1x2048.size a ≤ S8x2048.size a) :
    mr.view.readAt (Elt F) (Rect.unit (s := S8x2048) ![o, 0] S1x2048.size inb).toLoadRect (h.unread x) = rowAt x r := by
  subst ho
  funext y
  refine (h.readAt_unread x _ y).trans (congrArg x (funext fun a => Fin.ext ?_))
  have h0 : (y 0).val < 1 := (y 0).isLt
  match a with
  | ⟨0, _⟩ => show r.val + 1 * (y 0).val = r.val; omega
  | ⟨1, _⟩ => show 0 + 1 * (y 1).val = (y 1).val; omega

/-- A load of a whole block reads the block. -/
theorem load_all {s : Shape} {e : EltTy} {mr : Memref sig .tc .vmem s e} (h : mr.IsWhole) (x : Vec F s e) {off : Fin s.rank → ℕ}
    (inb : ∀ a, off a + s.size a ≤ s.size a) :
    mr.view.readAt (Elt F) (Rect.unit off s.size inb).toLoadRect (h.unread x) = x :=
  (View.readAt_full mr.view _ inb).trans (h.read_unread x)

/-- The two stores of a point's preparation leave the two blocks side by side. -/
theorem read_beside (v : View sig .tc .vmem S512x4096 .bf16) (f : v.ty.Contents (Elt F)) (u w : Vec F S512x2048 .bf16)
    (i0 : ∀ a, (![0, 0] : Fin 2 → ℕ) a + S512x2048.size a ≤ S512x4096.size a) (i1 : ∀ a, (![0, 2048] : Fin 2 → ℕ) a + S512x2048.size a ≤ S512x4096.size a) :
    v.read (Elt F) (v.writes (Elt F) f [⟨Rect.unit (s := S512x4096) ![0, 2048] S512x2048.size i1, w⟩, ⟨Rect.unit (s := S512x4096) ![0, 0] S512x2048.size i0, u⟩])
      = beside u w := by
  funext y
  have h0 : (y 0).val < 512 := (y 0).isLt
  have h1 : (y 1).val < 4096 := (y 1).isLt
  unfold beside
  by_cases h : (y 1).val < 2048
  · rw [dif_pos h]
    refine (View.read_writes_cons_unit_of_not_mem v f i1 w _ y rfl 1 (.inl h)).trans ?_
    refine View.read_writes_cons_unit_of_mem v f i0 u [] y (ix2 (⟨(y 0).val, (y 0).isLt⟩ : Fin 512) (⟨(y 1).val, h⟩ : Fin 2048)) rfl fun a => ?_
    match a with
    | ⟨0, _⟩ => show (y 0).val = 0 + (y 0).val; omega
    | ⟨1, _⟩ => show (y 1).val = 0 + (y 1).val; omega
  · rw [dif_neg h]
    refine View.read_writes_cons_unit_of_mem v f i1 w _ y (ix2 (⟨(y 0).val, (y 0).isLt⟩ : Fin 512) (⟨(y 1).val - 2048, by omega⟩ : Fin 2048)) rfl fun a => ?_
    match a with
    | ⟨0, _⟩ => show (y 0).val = 0 + (y 0).val; omega
    | ⟨1, _⟩ => show (y 1).val = 2048 + ((y 1).val - 2048); omega

end Cert.Blocks

end
-- ==== Proof.KBlocks.lean ====
/- What the body of the idealized kernel is run on and what it computes: its branch conditions over the points, its memrefs,
   and the prepared block and the product as functions of the windows' blocks. -/
module

public import proofs.«01_k».proof.Proof.Gen.KernelIdeal.Frame
public import proofs.«01_k».proof.Proof.Gen.KernelIdeal.Skeleton
public import proofs.«01_k».proof.Proof.Blocks

@[expose] public section

set_option maxRecDepth 16384

noncomputable section

namespace Cert.KernelIdeal.Hand

export Cert.Blocks (rowAt beside load_row load_all read_beside)

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The branch conditions, in closed form over the nine points -/

/-- Branch 0: a block was prepared at the point before. -/
abbrev br0 (i : grid0.Coords) : Prop := k0_cond1 i = 1#1
theorem hbr0 : ∀ t : Fin cfg0.N, br0 (grid0.coords t) ↔ 1 ≤ t.val :=
  (by decide +kernel : ∀ t : Fin grid0.N, br0 (grid0.coords t) ↔ 1 ≤ t.val)

/-- Branch 1: the point multiplies from the first scratch. -/
abbrev br1 (i : grid0.Coords) : Prop := k0_cond2 i = 1#1
theorem hbr1 : ∀ t : Fin cfg0.N, br1 (grid0.coords t) ↔ t.val % 2 = 1 :=
  (by decide +kernel : ∀ t : Fin grid0.N, br1 (grid0.coords t) ↔ t.val % 2 = 1)

/-- Branch 2: the point multiplies from the second scratch. -/
abbrev br2 (i : grid0.Coords) : Prop := k0_cond3 i = 1#1
theorem hbr2 : ∀ t : Fin cfg0.N, br2 (grid0.coords t) ↔ t.val % 2 = 0 :=
  (by decide +kernel : ∀ t : Fin grid0.N, br2 (grid0.coords t) ↔ t.val % 2 = 0)

/-- Branch 3: there is a block left to prepare. -/
abbrev br3 (i : grid0.Coords) : Prop := (Scalar.cmpi .ne (Scalar.extui (Scalar.cmpi .slt (BitVec.ofNat 32 (i 0).val) 8#32)) 0#32) = 1#1
theorem hbr3 : ∀ t : Fin cfg0.N, br3 (grid0.coords t) ↔ t.val < 8 :=
  (by decide +kernel : ∀ t : Fin grid0.N, br3 (grid0.coords t) ↔ t.val < 8)

/-- Branch 4: the point prepares into the first scratch. -/
abbrev br4 (i : grid0.Coords) : Prop := (Scalar.cmpi .ne (Scalar.extui (Scalar.cmpi .eq (Scalar.remsi (BitVec.ofNat 32 (i 0).val) 2#32) 0#32)) 0#32) = 1#1
theorem hbr4 : ∀ t : Fin cfg0.N, br4 (grid0.coords t) ↔ t.val % 2 = 0 :=
  (by decide +kernel : ∀ t : Fin grid0.N, br4 (grid0.coords t) ↔ t.val % 2 = 0)

/-- Branch 5: the point prepares into the second scratch. -/
abbrev br5 (i : grid0.Coords) : Prop := (Scalar.cmpi .ne (Scalar.extui (Scalar.cmpi .eq (Scalar.remsi (BitVec.ofNat 32 (i 0).val) 2#32) 1#32)) 0#32) = 1#1
theorem hbr5 : ∀ t : Fin cfg0.N, br5 (grid0.coords t) ↔ t.val % 2 = 1 :=
  (by decide +kernel : ∀ t : Fin grid0.N, br5 (grid0.coords t) ↔ t.val % 2 = 1)

/-! ## The memrefs the body is called with -/

/-- Window 0's staging memref at point `t`. -/
abbrev stg0 (t : Fin cfg0.N) : Memref sig .tc .vmem S512x2048 .f32 := win0_0.stage (cfg0.slots t 0)
theorem live0 : ∀ t : Fin cfg0.N, cfg0.idle 0 (grid0.coords t) = false := fun _ => rfl
/-- Window 1's staging memref at point `t`. -/
abbrev stg1 (t : Fin cfg0.N) : Memref sig .tc .vmem S8x2048 .f32 := win0_1.stage (cfg0.slots t 1)
theorem live1 : ∀ t : Fin cfg0.N, cfg0.idle 1 (grid0.coords t) = false := fun _ => rfl
/-- Window 2's staging memref at point `t`. -/
abbrev stg2 (t : Fin cfg0.N) : Memref sig .tc .vmem S16x2048 .bf16 := win0_2.stage (cfg0.slots t 2)
theorem live2 : ∀ t : Fin cfg0.N, cfg0.idle 2 (grid0.coords t) = false := fun _ => rfl
/-- Window 3's staging memref at point `t`. -/
abbrev stg3 (t : Fin cfg0.N) : Memref sig .tc .vmem S16x2048 .bf16 := win0_3.stage (cfg0.slots t 3)
theorem live3 : ∀ t : Fin cfg0.N, cfg0.idle 3 (grid0.coords t) = false := fun _ => rfl
/-- Window 4's staging memref at point `t`. -/
abbrev stg4 (t : Fin cfg0.N) : Memref sig .tc .vmem S4096x2048 .bf16 := win0_4.stage (cfg0.slots t 4)
theorem live4 : ∀ t : Fin cfg0.N, cfg0.idle 4 (grid0.coords t) = false := fun _ => rfl
/-- Window 5's staging memref at point `t`. -/
abbrev stg5 (t : Fin cfg0.N) : Memref sig .tc .vmem S8x2048 .f32 := win0_5.stage (cfg0.slots t 5)
theorem live5 : ∀ t : Fin cfg0.N, cfg0.idle 5 (grid0.coords t) = false := fun _ => rfl
/-- The output window's staging memref at point `t`. -/
abbrev stg6 (t : Fin cfg0.N) : Memref sig .tc .vmem S512x2048 .f32 := win0_6.stage (cfg0.slots t 6)
/-- The two scratch buffers, as the body is given them. -/
abbrev catA : Memref sig .tc .vmem S512x4096 .bf16 := Memref.whole cc0_scratch0
abbrev catB : Memref sig .tc .vmem S512x4096 .bf16 := Memref.whole cc0_scratch1

/-- What the launch keeps beside the windows: both scratch buffers at anything, and the generator register. -/
theorem rest_eq (c : Dev nD) :
    (Pipeline.ΦA spec0 c : sProp 𝕄)
      = iprop(iprop((∃ d, owns (c : Thread nD τ) catA fullShare d) ∗ (∃ d, owns (c : Thread nD τ) catB fullShare d)) ∗ (∃ r, prngReg c r)) := by
  unfold Pipeline.ΦA; rw [scopedRest0_eq]; simp only [catA, catB, owns_whole]; try rfl

/-- The output window is idle exactly at the first point, and is not written back there. -/
theorem idle6 : ∀ t : Fin cfg0.N, cfg0.idle 6 (grid0.coords t) = true ↔ t.val = 0 :=
  (by decide +kernel : ∀ t : Fin grid0.N, cfg0.idle 6 (grid0.coords t) = true ↔ t.val = 0)
theorem flush6 : ∀ t : Fin cfg0.N, (cfg0.win 6).flush t = true ↔ 1 ≤ t.val :=
  (by decide +kernel : ∀ t : Fin grid0.N, win0_6.flush t = true ↔ 1 ≤ t.val)

/-! ## What the body computes, as functions of the blocks -/

/-- The interpolated block: the spline of every entry of `x0`, from the scaled grid `x1` and the tables `x2` (values) and `x3` (differences). -/
def splineOf (x0 : Vec F S512x2048 .f32) (x1 : Vec F S8x2048 .f32) (x2 x3 : Vec F S16x2048 .bf16) : FVec F S512x2048 .bf16 :=
  k0_pay24 (k0_pay6 x2) (k0_pay7 x3) (k0_pay9 x0 (rowAt x1 0) (rowAt x1 2)) (k0_pay10 x0 (rowAt x1 0) (rowAt x1 2))
    (k0_pay22 (k0_pay7 x3) (k0_pay9 x0 (rowAt x1 0) (rowAt x1 2)) (k0_pay12 x0 x3 (rowAt x1 0) (rowAt x1 2)) (k0_pay14 x0 (rowAt x1 0) (rowAt x1 2)) (k0_pay16 x3))
    (k0_pay23 (k0_pay6 x2) (k0_pay9 x0 (rowAt x1 0) (rowAt x1 2)) (k0_pay13 x0 x2 (rowAt x1 0) (rowAt x1 2)) (k0_pay14 x0 (rowAt x1 0) (rowAt x1 2)) (k0_pay15 x2))

/-- What a point prepares in a scratch buffer: the interpolated block beside the rounded block. -/
def prepOf (x0 : Vec F S512x2048 .f32) (x1 : Vec F S8x2048 .f32) (x2 x3 : Vec F S16x2048 .bf16) : Vec F S512x4096 .bf16 :=
  beside (splineOf x0 x1 x2 x3) (k0_pay25 (k0_pay5 x0))

/-- What a point stores to the output: the prepared block times the joined weights, plus the bias row. -/
def mulOf (w : Vec F S512x4096 .bf16) (x4 : Vec F S4096x2048 .bf16) (x5 : Vec F S8x2048 .f32) : Vec F S512x2048 .f32 :=
  k0_pay1 w x4 (rowAt x5 0)

/-- A stored value is the computed one: the cast to the same shape changes nothing. -/
theorem pay2_eq (v13 : Vec F S512x4096 .bf16) (v14 : Vec F S4096x2048 .bf16) (v17 : Vec F S1x2048 .f32) : k0_pay2 v13 v14 v17 = k0_pay1 v13 v14 v17 := rfl
theorem pay3_eq (v : FVec F S512x2048 .bf16) : k0_pay3 v = v := shapeCast_self _ _
theorem pay4_eq (v : FVec F S512x2048 .bf16) : k0_pay4 v = v := shapeCast_self _ _
theorem pay26_eq (v10 v16 : FVec F S16x2048 .bf16) (v34 v35 : FVec F S512x2048 .f32) (lo hi : FVec F S512x2048 .bf16) :
    k0_pay26 v10 v16 v34 v35 lo hi = k0_pay24 v10 v16 v34 v35 lo hi := shapeCast_self _ _
theorem pay27_eq (v : FVec F S512x2048 .f32) : k0_pay27 v = k0_pay25 v := shapeCast_self _ _

end Cert.KernelIdeal.Hand

end
-- ==== Proof.KRunA.lean ====
/- The run of the body at the first point. -/
module

public import proofs.«01_k».proof.Proof.KBlocks

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the run's proof term is large
set_option maxHeartbeats 1000000 in
/-- At the first point the body only prepares, into the first scratch. -/
theorem runA (c : Dev nD) (i : grid0.Coords) (arg1 : Memref sig .tc .vmem S512x2048 .f32) (harg1 : arg1.IsWhole) (arg2 : Memref sig .tc .vmem S8x2048 .f32) (harg2 : arg2.IsWhole) (arg3 : Memref sig .tc .vmem S16x2048 .bf16) (harg3 : arg3.IsWhole) (arg4 : Memref sig .tc .vmem S16x2048 .bf16) (harg4 : arg4.IsWhole) (arg5 : Memref sig .tc .vmem S4096x2048 .bf16) (harg5 : arg5.IsWhole) (arg6 : Memref sig .tc .vmem S8x2048 .f32) (harg6 : arg6.IsWhole) (arg7 : Memref sig .tc .vmem S512x2048 .f32) (harg7 : arg7.IsWhole) (arg8 : Memref sig .tc .vmem S512x4096 .bf16) (harg8 : arg8.IsWhole) (arg9 : Memref sig .tc .vmem S512x4096 .bf16) (harg9 : arg9.IsWhole) (hc0 : ¬br0 i) (hc3 : br3 i) (hc4 : br4 i) (hc5 : ¬br5 i)
    (x0 : Vec F S512x2048 .f32) (x1 : Vec F S8x2048 .f32) (x2 : Vec F S16x2048 .bf16) (x3 : Vec F S16x2048 .bf16) (x4 : Vec F S4096x2048 .bf16) (x5 : Vec F S8x2048 .f32) (x6 : Vec F S512x2048 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (prepOf x0 x1 x2 x3) ∗ (∃ d, owns (c : Thread nD τ) arg9 fullShare d)) -∗ K ⟨⟩))
      ⊢ wp frame (wpE (defs₀ (F := F)) Variants.none c none) E (cc0__body i arg1 harg1 arg2 harg2 arg3 harg3 arg4 harg4 arg5 harg5 arg6 harg6 arg7 harg7 arg8 harg8 arg9 harg9) K := by
  simp only [cc0__body_eq_skeleton]; unfold cc0__body_skel
  simp only [k0_part1_eq_skeleton, k0_part2_eq_skeleton, k0_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, ⟨%ds1, %fs1, -, HS1⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5
  sl_exec (disch := first | sl_exact hc0 | sl_exact hc3 | sl_exact hc4 | sl_exact hc5)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact hf6
    iexact H6
  isplitl [HS0]
  · iexists _; isplitr; swap; · iexact HS0
    ipureintro
    refine (read_beside arg8.view _ _ _ _ _).trans ?_
    sl_unfold_run_names
    rw [pay26_eq, pay27_eq]
    sl_unfold_run_names
    rw [load_all harg1, load_all harg3, load_all harg4, load_row harg2 x1 0 0 rfl, load_row harg2 x1 2 2 rfl]
    unfold prepOf splineOf; with_reducible rfl
  iexists _, _; isplitr; swap; · iexact HS1
  ipureintro; rfl

end Cert.KernelIdeal.Hand

end
-- ==== Proof.KRunB.lean ====
/- The run of the body at an odd point. -/
module

public import proofs.«01_k».proof.Proof.KBlocks

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the run's proof term is large
set_option maxHeartbeats 1000000 in
/-- At an odd point it multiplies from the first scratch and prepares into the second. -/
theorem runB (c : Dev nD) (i : grid0.Coords) (arg1 : Memref sig .tc .vmem S512x2048 .f32) (harg1 : arg1.IsWhole) (arg2 : Memref sig .tc .vmem S8x2048 .f32) (harg2 : arg2.IsWhole) (arg3 : Memref sig .tc .vmem S16x2048 .bf16) (harg3 : arg3.IsWhole) (arg4 : Memref sig .tc .vmem S16x2048 .bf16) (harg4 : arg4.IsWhole) (arg5 : Memref sig .tc .vmem S4096x2048 .bf16) (harg5 : arg5.IsWhole) (arg6 : Memref sig .tc .vmem S8x2048 .f32) (harg6 : arg6.IsWhole) (arg7 : Memref sig .tc .vmem S512x2048 .f32) (harg7 : arg7.IsWhole) (arg8 : Memref sig .tc .vmem S512x4096 .bf16) (harg8 : arg8.IsWhole) (arg9 : Memref sig .tc .vmem S512x4096 .bf16) (harg9 : arg9.IsWhole) (hc0 : br0 i) (hc1 : br1 i) (hc2 : ¬br2 i) (hc3 : br3 i) (hc4 : ¬br4 i) (hc5 : br5 i)
    (x0 : Vec F S512x2048 .f32) (x1 : Vec F S8x2048 .f32) (x2 : Vec F S16x2048 .bf16) (x3 : Vec F S16x2048 .bf16) (x4 : Vec F S4096x2048 .bf16) (x5 : Vec F S8x2048 .f32) (w : Vec F S512x4096 .bf16) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare w ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (mulOf w x4 x5) ∗ owns (c : Thread nD τ) arg8 fullShare w ∗ owns (c : Thread nD τ) arg9 fullShare (prepOf x0 x1 x2 x3)) -∗ K ⟨⟩))
      ⊢ wp frame (wpE (defs₀ (F := F)) Variants.none c none) E (cc0__body i arg1 harg1 arg2 harg2 arg3 harg3 arg4 harg4 arg5 harg5 arg6 harg6 arg7 harg7 arg8 harg8 arg9 harg9) K := by
  simp only [cc0__body_eq_skeleton]; unfold cc0__body_skel
  simp only [k0_part1_eq_skeleton, k0_part2_eq_skeleton, k0_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, ⟨%ds1, %fs1, -, HS1⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg8.eq_unread hfs0
  sl_exec (disch := first | sl_exact hc0 | sl_exact hc1 | sl_exact hc2 | sl_exact hc3 | sl_exact hc4 | sl_exact hc5)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; swap; · iexact H6
    ipureintro
    refine (View.read_writes_full arg7.view _ _ _ []).trans ?_
    sl_unfold_run_names
    skip
    rw [load_all, load_all, load_row harg6 x5 0 0 rfl]; unfold mulOf; with_reducible rfl
  isplitl [HS0]
  · iexists _; isplitr; · ipureintro; exact harg8.read_unread _
    iexact HS0
  iexists _; isplitr; swap; · iexact HS1
  ipureintro
  refine (read_beside arg9.view _ _ _ _ _).trans ?_
  sl_unfold_run_names
  rw [pay3_eq, pay4_eq]
  sl_unfold_run_names
  rw [load_all harg1, load_all harg3, load_all harg4, load_row harg2 x1 0 0 rfl, load_row harg2 x1 2 2 rfl]
  unfold prepOf splineOf; with_reducible rfl

end Cert.KernelIdeal.Hand

end
-- ==== Proof.KRunC.lean ====
/- The run of the body at an even point between the first and the last. -/
module

public import proofs.«01_k».proof.Proof.KBlocks

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the run's proof term is large
set_option maxHeartbeats 1000000 in
/-- At an even point between it multiplies from the second scratch and prepares into the first. -/
theorem runC (c : Dev nD) (i : grid0.Coords) (arg1 : Memref sig .tc .vmem S512x2048 .f32) (harg1 : arg1.IsWhole) (arg2 : Memref sig .tc .vmem S8x2048 .f32) (harg2 : arg2.IsWhole) (arg3 : Memref sig .tc .vmem S16x2048 .bf16) (harg3 : arg3.IsWhole) (arg4 : Memref sig .tc .vmem S16x2048 .bf16) (harg4 : arg4.IsWhole) (arg5 : Memref sig .tc .vmem S4096x2048 .bf16) (harg5 : arg5.IsWhole) (arg6 : Memref sig .tc .vmem S8x2048 .f32) (harg6 : arg6.IsWhole) (arg7 : Memref sig .tc .vmem S512x2048 .f32) (harg7 : arg7.IsWhole) (arg8 : Memref sig .tc .vmem S512x4096 .bf16) (harg8 : arg8.IsWhole) (arg9 : Memref sig .tc .vmem S512x4096 .bf16) (harg9 : arg9.IsWhole) (hc0 : br0 i) (hc1 : ¬br1 i) (hc2 : br2 i) (hc3 : br3 i) (hc4 : br4 i) (hc5 : ¬br5 i)
    (x0 : Vec F S512x2048 .f32) (x1 : Vec F S8x2048 .f32) (x2 : Vec F S16x2048 .bf16) (x3 : Vec F S16x2048 .bf16) (x4 : Vec F S4096x2048 .bf16) (x5 : Vec F S8x2048 .f32) (w : Vec F S512x4096 .bf16) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ owns (c : Thread nD τ) arg9 fullShare w
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (mulOf w x4 x5) ∗ owns (c : Thread nD τ) arg8 fullShare (prepOf x0 x1 x2 x3) ∗ owns (c : Thread nD τ) arg9 fullShare w) -∗ K ⟨⟩))
      ⊢ wp frame (wpE (defs₀ (F := F)) Variants.none c none) E (cc0__body i arg1 harg1 arg2 harg2 arg3 harg3 arg4 harg4 arg5 harg5 arg6 harg6 arg7 harg7 arg8 harg8 arg9 harg9) K := by
  simp only [cc0__body_eq_skeleton]; unfold cc0__body_skel
  simp only [k0_part1_eq_skeleton, k0_part2_eq_skeleton, k0_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%ds0, %fs0, -, HS0⟩, ⟨%fs1, %hfs1, HS1⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg9.eq_unread hfs1
  sl_exec (disch := first | sl_exact hc0 | sl_exact hc1 | sl_exact hc2 | sl_exact hc3 | sl_exact hc4 | sl_exact hc5)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; swap; · iexact H6
    ipureintro
    refine (View.read_writes_full arg7.view _ _ _ []).trans ?_
    sl_unfold_run_names
    rw [pay2_eq]
    rw [load_all, load_all, load_row harg6 x5 0 0 rfl]; unfold mulOf; with_reducible rfl
  isplitl [HS0]
  · iexists _; isplitr; swap; · iexact HS0
    ipureintro
    refine (read_beside arg8.view _ _ _ _ _).trans ?_
    sl_unfold_run_names
    rw [pay26_eq, pay27_eq]
    sl_unfold_run_names
    rw [load_all harg1, load_all harg3, load_all harg4, load_row harg2 x1 0 0 rfl, load_row harg2 x1 2 2 rfl]
    unfold prepOf splineOf; with_reducible rfl
  iexists _; isplitr; · ipureintro; exact harg9.read_unread _
  iexact HS1

end Cert.KernelIdeal.Hand

end
-- ==== Proof.KRunD.lean ====
/- The run of the body at the last point. -/
module

public import proofs.«01_k».proof.Proof.KBlocks

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the run's proof term is large
set_option maxHeartbeats 1000000 in
/-- At the last point it only multiplies, from the second scratch. -/
theorem runD (c : Dev nD) (i : grid0.Coords) (arg1 : Memref sig .tc .vmem S512x2048 .f32) (harg1 : arg1.IsWhole) (arg2 : Memref sig .tc .vmem S8x2048 .f32) (harg2 : arg2.IsWhole) (arg3 : Memref sig .tc .vmem S16x2048 .bf16) (harg3 : arg3.IsWhole) (arg4 : Memref sig .tc .vmem S16x2048 .bf16) (harg4 : arg4.IsWhole) (arg5 : Memref sig .tc .vmem S4096x2048 .bf16) (harg5 : arg5.IsWhole) (arg6 : Memref sig .tc .vmem S8x2048 .f32) (harg6 : arg6.IsWhole) (arg7 : Memref sig .tc .vmem S512x2048 .f32) (harg7 : arg7.IsWhole) (arg8 : Memref sig .tc .vmem S512x4096 .bf16) (harg8 : arg8.IsWhole) (arg9 : Memref sig .tc .vmem S512x4096 .bf16) (harg9 : arg9.IsWhole) (hc0 : br0 i) (hc1 : ¬br1 i) (hc2 : br2 i) (hc3 : ¬br3 i)
    (x0 : Vec F S512x2048 .f32) (x1 : Vec F S8x2048 .f32) (x2 : Vec F S16x2048 .bf16) (x3 : Vec F S16x2048 .bf16) (x4 : Vec F S4096x2048 .bf16) (x5 : Vec F S8x2048 .f32) (w : Vec F S512x4096 .bf16) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ owns (c : Thread nD τ) arg9 fullShare w
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (mulOf w x4 x5) ∗ (∃ d, owns (c : Thread nD τ) arg8 fullShare d) ∗ owns (c : Thread nD τ) arg9 fullShare w) -∗ K ⟨⟩))
      ⊢ wp frame (wpE (defs₀ (F := F)) Variants.none c none) E (cc0__body i arg1 harg1 arg2 harg2 arg3 harg3 arg4 harg4 arg5 harg5 arg6 harg6 arg7 harg7 arg8 harg8 arg9 harg9) K := by
  simp only [cc0__body_eq_skeleton]; unfold cc0__body_skel
  simp only [k0_part1_eq_skeleton, k0_part2_eq_skeleton, k0_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%ds0, %fs0, -, HS0⟩, ⟨%fs1, %hfs1, HS1⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg9.eq_unread hfs1
  sl_exec (disch := first | sl_exact hc0 | sl_exact hc1 | sl_exact hc2 | sl_exact hc3)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; swap; · iexact H6
    ipureintro
    refine (View.read_writes_full arg7.view _ _ _ []).trans ?_
    sl_unfold_run_names
    rw [pay2_eq]
    rw [load_all, load_all, load_row harg6 x5 0 0 rfl]; unfold mulOf; with_reducible rfl
  isplitl [HS0]
  · iexists _, _; isplitr; swap; · iexact HS0
    ipureintro; rfl
  iexists _; isplitr; · ipureintro; exact harg9.read_unread _
  iexact HS1

end Cert.KernelIdeal.Hand

end
-- ==== Proof.KFrame.lean ====
/- The frame of the idealized kernel with the scratch buffers' contents named between the points, and its result array. -/
module

public import proofs.«01_k».proof.Proof.KRunA
public import proofs.«01_k».proof.Proof.KRunB
public import proofs.«01_k».proof.Proof.KRunC
public import proofs.«01_k».proof.Proof.KRunD
public import Idealize.ShloMosaic.Lib.Claim

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What is where after each point -/

/-- The block point `t` prepares. -/
def prepAt (c : Dev nD) (t : Fin cfg0.N) : Vec F S512x4096 .bf16 :=
  prepOf (iblk m c 0 t) (iblk m c 1 t) (iblk m c 2 t) (iblk m c 3 t)

/-- The point before `t` (the first point's is itself). -/
def prev (t : Fin cfg0.N) : Fin cfg0.N := ⟨t.val - 1, Nat.lt_of_le_of_lt (Nat.sub_le _ _) t.isLt⟩

/-- The block point `t` stores: the product of what the point before prepared. -/
def prodAt (c : Dev nD) (t : Fin cfg0.N) : Vec F S512x2048 .f32 :=
  mulOf (prepAt m c (prev t)) (iblk m c 4 t) (iblk m c 5 t)

theorem lt_nine {n : ℕ} (h : n ≤ cfg0.N) : n - 1 < cfg0.N := by have : cfg0.N = 9 := N_0; omega

/-- The invariant before position `n`: before an odd point the first scratch holds what the point before prepared,
    before an even one the second does; the other is at anything, and so are both at the ends. -/
def Inv (c : Dev nD) (n : ℕ) (h : n ≤ cfg0.N) : sProp 𝕄 :=
  if n = 0 ∨ n = 9 then Pipeline.ΦA spec0 c
  else if n % 2 = 1 then iprop(iprop(owns (c : Thread nD τ) catA fullShare (prepAt m c ⟨n - 1, lt_nine h⟩) ∗ (∃ d, owns (c : Thread nD τ) catB fullShare d)) ∗ (∃ r, prngReg c r))
  else iprop(iprop((∃ d, owns (c : Thread nD τ) catA fullShare d) ∗ owns (c : Thread nD τ) catB fullShare (prepAt m c ⟨n - 1, lt_nine h⟩)) ∗ (∃ r, prngReg c r))

theorem Inv_end (c : Dev nD) (n : ℕ) (h : n ≤ cfg0.N) (e : n = 0 ∨ n = 9) : Inv m c n h = Pipeline.ΦA spec0 c := if_pos e

theorem Inv_odd (c : Dev nD) (n : ℕ) (h : n ≤ cfg0.N) (e : ¬(n = 0 ∨ n = 9)) (o : n % 2 = 1) (t : Fin cfg0.N) (ht : t.val = n - 1) :
    Inv m c n h = iprop(iprop(owns (c : Thread nD τ) catA fullShare (prepAt m c t) ∗ (∃ d, owns (c : Thread nD τ) catB fullShare d)) ∗ (∃ r, prngReg c r)) := by
  obtain rfl : t = ⟨n - 1, lt_nine h⟩ := Fin.ext ht
  exact (if_neg e).trans (if_pos o)

theorem Inv_even (c : Dev nD) (n : ℕ) (h : n ≤ cfg0.N) (e : ¬(n = 0 ∨ n = 9)) (o : ¬n % 2 = 1) (t : Fin cfg0.N) (ht : t.val = n - 1) :
    Inv m c n h = iprop(iprop((∃ d, owns (c : Thread nD τ) catA fullShare d) ∗ owns (c : Thread nD τ) catB fullShare (prepAt m c t)) ∗ (∃ r, prngReg c r)) := by
  obtain rfl : t = ⟨n - 1, lt_nine h⟩ := Fin.ext ht
  exact (if_neg e).trans (if_neg o)

/-- The proof data of the pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => prodAt m c t
  Φ t := Inv m c t.val (Nat.le_of_lt_succ t.isLt)
  q _ := fullShare
  owed _ := 0

theorem A_eq (c : Dev nD) (w : Fin cfg0.W) : (dats m 0 c).A w = V m c (Pipeline.arrRef spec0 w) := by
  dsimp only [dats]

theorem Phi_before (c : Dev nD) (t : Fin cfg0.N) : (dats m 0 c).Φ t.castSucc = Inv m c t.val (Nat.le_of_lt t.isLt) := by
  dsimp only [dats]; exact Pipeline.Dat.Φ_castSucc (Inv m c) t

theorem Phi_after (c : Dev nD) (t : Fin cfg0.N) : (dats m 0 c).Φ t.succ = Inv m c (t.val + 1) t.isLt := rfl

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = prodAt m c t := by dsimp only [dats]
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem leaves0 (c : Dev nD) (t : Fin cfg0.N) : ((dats m 0 c).leavesExact 0 t : sProp 𝕄) = owns (c : Thread nD τ) (stg0 t) fullShare (iblk m c 0 t) := by
  unfold Dat.leavesExact; rw [live0 t, after0]
theorem leaves1 (c : Dev nD) (t : Fin cfg0.N) : ((dats m 0 c).leavesExact 1 t : sProp 𝕄) = owns (c : Thread nD τ) (stg1 t) fullShare (iblk m c 1 t) := by
  unfold Dat.leavesExact; rw [live1 t, after1]
theorem leaves2 (c : Dev nD) (t : Fin cfg0.N) : ((dats m 0 c).leavesExact 2 t : sProp 𝕄) = owns (c : Thread nD τ) (stg2 t) fullShare (iblk m c 2 t) := by
  unfold Dat.leavesExact; rw [live2 t, after2]
theorem leaves3 (c : Dev nD) (t : Fin cfg0.N) : ((dats m 0 c).leavesExact 3 t : sProp 𝕄) = owns (c : Thread nD τ) (stg3 t) fullShare (iblk m c 3 t) := by
  unfold Dat.leavesExact; rw [live3 t, after3]
theorem leaves4 (c : Dev nD) (t : Fin cfg0.N) : ((dats m 0 c).leavesExact 4 t : sProp 𝕄) = owns (c : Thread nD τ) (stg4 t) fullShare (iblk m c 4 t) := by
  unfold Dat.leavesExact; rw [live4 t, after4]
theorem leaves5 (c : Dev nD) (t : Fin cfg0.N) : ((dats m 0 c).leavesExact 5 t : sProp 𝕄) = owns (c : Thread nD τ) (stg5 t) fullShare (iblk m c 5 t) := by
  unfold Dat.leavesExact; rw [live5 t, after5]
theorem leaves6 (c : Dev nD) (t : Fin cfg0.N) (h : 1 ≤ t.val) : ((dats m 0 c).leavesExact 6 t : sProp 𝕄) = owns (c : Thread nD τ) (stg6 t) fullShare (prodAt m c t) := by
  have hi : cfg0.idle 6 (grid0.coords t) = false := by
    rw [← Bool.not_eq_true]; exact fun e => by have := (idle6 t).mp e; omega
  unfold Dat.leavesExact; rw [hi, after6]

/-! ## The body's obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (stg0 t) fullShare ((dats m 0 c).before 0 t d))
    ∗ (∃ d, owns (c : Thread nD τ) (stg1 t) fullShare ((dats m 0 c).before 1 t d))
    ∗ (∃ d, owns (c : Thread nD τ) (stg2 t) fullShare ((dats m 0 c).before 2 t d))
    ∗ (∃ d, owns (c : Thread nD τ) (stg3 t) fullShare ((dats m 0 c).before 3 t d))
    ∗ (∃ d, owns (c : Thread nD τ) (stg4 t) fullShare ((dats m 0 c).before 4 t d))
    ∗ (∃ d, owns (c : Thread nD τ) (stg5 t) fullShare ((dats m 0 c).before 5 t d))
    ∗ (∃ d, owns (c : Thread nD τ) (stg6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 3200000 in
/-- The first point. -/
theorem soundA (c : Dev nD) (t : Fin cfg0.N) (h : t.val = 0) :
    bodyPre m c t ⊢ wp frame (wpE (defs₀ (F := F)) Variants.none c none) Set.univ (bodyAt0 t) (fun _ => bodyPost m c t) := by
  have hN : t.val < 9 := lt_of_lt_of_eq t.isLt N_0
  unfold bodyPre bodyPost bodyAt0
  simp only [before0, before1, before2, before3, before4, before5, leaves0, leaves1, leaves2, leaves3, leaves4, leaves5]
  rw [show (dats m 0 c).owesAt () t.succ = (dats m 0 c).owesAt () t.castSucc from rfl, Phi_before, Phi_after, Inv_end m c _ _ (.inl h), rest_eq, Inv_odd m c _ _ (by omega) (by omega) t (by omega)]
  rw [Dat.leavesExact_idle (dats m 0 c) 6 t ((idle6 t).mpr h) (by rw [← Bool.not_eq_true]; exact fun e => by have := (flush6 t).mp e; omega)]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩⟩
  iapply (runA c (grid0.coords t) _ _ _ _ _ _ _ _ _ _ _ _ _ _ _ _ _ _ (fun h => by have := (hbr0 t).mp h; omega) ((hbr3 t).mpr (by omega)) ((hbr4 t).mpr (by omega)) (fun h => by have := (hbr5 t).mp h; omega) (iblk m c 0 t) (iblk m c 1 t) (iblk m c 2 t) (iblk m c 3 t) (iblk m c 4 t) (iblk m c 5 t) _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HS0]; · iexact HS0
  isplitl [HS1]; · iexact HS1
  iintro ⟨H0, H1, H2, H3, H4, H5, H6, HS0, HS1⟩
  isplitl [HS0 HS1 Hg]
  · isplitl [HS0 HS1]
    · isplitl [HS0]; · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexists _; iexact H6

set_option maxHeartbeats 3200000 in
/-- An odd point. -/
theorem soundB (c : Dev nD) (t : Fin cfg0.N) (h : t.val % 2 = 1) :
    bodyPre m c t ⊢ wp frame (wpE (defs₀ (F := F)) Variants.none c none) Set.univ (bodyAt0 t) (fun _ => bodyPost m c t) := by
  have hN : t.val < 9 := lt_of_lt_of_eq t.isLt N_0
  unfold bodyPre bodyPost bodyAt0
  simp only [before0, before1, before2, before3, before4, before5, leaves0, leaves1, leaves2, leaves3, leaves4, leaves5]
  rw [show (dats m 0 c).owesAt () t.succ = (dats m 0 c).owesAt () t.castSucc from rfl, Phi_before, Phi_after, Inv_odd m c _ _ (by omega) (by omega) (prev t) rfl, Inv_even m c _ _ (by omega) (by omega) t (by omega)]
  rw [leaves6 m c t (by omega)]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩⟩
  iapply (runB c (grid0.coords t) _ _ _ _ _ _ _ _ _ _ _ _ _ _ _ _ _ _ ((hbr0 t).mpr (by omega)) ((hbr1 t).mpr (by omega)) (fun h => by have := (hbr2 t).mp h; omega) ((hbr3 t).mpr (by omega)) (fun h => by have := (hbr4 t).mp h; omega) ((hbr5 t).mpr (by omega)) (iblk m c 0 t) (iblk m c 1 t) (iblk m c 2 t) (iblk m c 3 t) (iblk m c 4 t) (iblk m c 5 t) (prepAt m c (prev t)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [HS0]; · iexact HS0
  isplitl [HS1]; · iexact HS1
  iintro ⟨H0, H1, H2, H3, H4, H5, H6, HS0, HS1⟩
  isplitl [HS0 HS1 Hg]
  · isplitl [HS0 HS1]
    · isplitl [HS0]; · iexists _; iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

set_option maxHeartbeats 3200000 in
/-- An even point between the ends. -/
theorem soundC (c : Dev nD) (t : Fin cfg0.N) (h : t.val % 2 = 0) (h1 : 1 ≤ t.val) (h2 : t.val < 8) :
    bodyPre m c t ⊢ wp frame (wpE (defs₀ (F := F)) Variants.none c none) Set.univ (bodyAt0 t) (fun _ => bodyPost m c t) := by
  have hN : t.val < 9 := lt_of_lt_of_eq t.isLt N_0
  unfold bodyPre bodyPost bodyAt0
  simp only [before0, before1, before2, before3, before4, before5, leaves0, leaves1, leaves2, leaves3, leaves4, leaves5]
  rw [show (dats m 0 c).owesAt () t.succ = (dats m 0 c).owesAt () t.castSucc from rfl, Phi_before, Phi_after, Inv_even m c _ _ (by omega) (by omega) (prev t) rfl, Inv_odd m c _ _ (by omega) (by omega) t (by omega)]
  rw [leaves6 m c t (by omega)]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩⟩
  iapply (runC c (grid0.coords t) _ _ _ _ _ _ _ _ _ _ _ _ _ _ _ _ _ _ ((hbr0 t).mpr (by omega)) (fun h => by have := (hbr1 t).mp h; omega) ((hbr2 t).mpr (by omega)) ((hbr3 t).mpr (by omega)) ((hbr4 t).mpr (by omega)) (fun h => by have := (hbr5 t).mp h; omega) (iblk m c 0 t) (iblk m c 1 t) (iblk m c 2 t) (iblk m c 3 t) (iblk m c 4 t) (iblk m c 5 t) (prepAt m c (prev t)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [HS0]; · iexact HS0
  isplitl [HS1]; · iexact HS1
  iintro ⟨H0, H1, H2, H3, H4, H5, H6, HS0, HS1⟩
  isplitl [HS0 HS1 Hg]
  · isplitl [HS0 HS1]
    · isplitl [HS0]; · iexact HS0
      iexists _; iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

set_option maxHeartbeats 3200000 in
/-- The last point. -/
theorem soundD (c : Dev nD) (t : Fin cfg0.N) (h : t.val = 8) :
    bodyPre m c t ⊢ wp frame (wpE (defs₀ (F := F)) Variants.none c none) Set.univ (bodyAt0 t) (fun _ => bodyPost m c t) := by
  have hN : t.val < 9 := lt_of_lt_of_eq t.isLt N_0
  unfold bodyPre bodyPost bodyAt0
  simp only [before0, before1, before2, before3, before4, before5, leaves0, leaves1, leaves2, leaves3, leaves4, leaves5]
  rw [show (dats m 0 c).owesAt () t.succ = (dats m 0 c).owesAt () t.castSucc from rfl, Phi_before, Phi_after, Inv_even m c _ _ (by omega) (by omega) (prev t) rfl, Inv_end m c _ _ (by omega), rest_eq]
  rw [leaves6 m c t (by omega)]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩⟩
  iapply (runD c (grid0.coords t) _ _ _ _ _ _ _ _ _ _ _ _ _ _ _ _ _ _ ((hbr0 t).mpr (by omega)) (fun h => by have := (hbr1 t).mp h; omega) ((hbr2 t).mpr (by omega)) (fun h => by have := (hbr3 t).mp h; omega) (iblk m c 0 t) (iblk m c 1 t) (iblk m c 2 t) (iblk m c 3 t) (iblk m c 4 t) (iblk m c 5 t) (prepAt m c (prev t)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [HS0]; · iexact HS0
  isplitl [HS1]; · iexact HS1
  iintro ⟨H0, H1, H2, H3, H4, H5, H6, HS0, HS1⟩
  isplitl [HS0 HS1 Hg]
  · isplitl [HS0 HS1]
    · isplitl [HS0]; · iexact HS0
      iexists _; iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem sound (c : Dev nD) (t : Fin cfg0.N) :
    bodyPre m c t ⊢ wp frame (wpE (defs₀ (F := F)) Variants.none c none) Set.univ (bodyAt0 t) (fun _ => bodyPost m c t) := by
  have hN : t.val < 9 := lt_of_lt_of_eq t.isLt N_0
  by_cases h : t.val % 2 = 1
  · exact soundB m c t h
  by_cases h1 : t.val = 0
  · exact soundA m c t h1
  by_cases h2 : t.val = 8
  · exact soundD m c t h2
  exact soundC m c t (by omega) (by omega) (by omega)

theorem body_row (t : Fin cfg0.N) : defs₀ (F := F) .tc cfg0.body (cfg0.bodyArgs t (cfg0.slots t)) = bodyAt0 t := by
  unfold defs₀; rw [Defs.onTc_tc]

/-- The library's obligation for the body, at every point. -/
theorem obligation (c : Dev nD) : BodyObligation (dats (F := F) m 0 c) (defs₀ (F := F)) Variants.none () Set.univ := fun t => by
  rw [bigSep_W0, bigSep_W0, body_row]
  exact triple_restated (sound m c t) rfl .rfl fun _ => .rfl

theorem enters (c : Dev nD) : Pipeline.ΦA spec0 c ⊢ (dats m 0 c).Φ 0 := by
  rw [show (dats m 0 c).Φ 0 = Inv m c 0 (Nat.zero_le _) from rfl, Inv_end m c 0 _ (.inl rfl)]
  try exact Idealize.SL.BI.Entails.refl _

theorem exits (c : Dev nD) : (dats m 0 c).Φ (Fin.last cfg0.N) ⊢ Pipeline.ΦA spec0 c := by
  rw [show (dats m 0 c).Φ (Fin.last cfg0.N) = Inv m c cfg0.N (Nat.le_refl _) from rfl, Inv_end m c _ _ (.inr N_0)]
  try exact Idealize.SL.BI.Entails.refl _

/-! ## The run -/

set_option backward.isDefEq.respectTransparency.types false in
/-- Every run ends with the pipeline's arrays at what the proof data says, the other buffers kept, and every counter at zero. -/
theorem run_quiet : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := A_eq m) (hin := enters m) (hout := exits m)

theorem run : θ_run defs (onTc (τ := τ) (main (F := F))) (s₀ m ρ) (Pipeline.FramePost cfgs (dats m) 0 (V m)) :=
  (θ_run defs _ _).mono (fun _ h => h.1) (run_quiet m ρ)

/-- The frame: the arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (frame_of m ρ (dats m) (A_eq m) (run m ρ)) ((θ_run defs _ _).mono (fun _ h => h.2) (run_quiet m ρ))

/-- The result array after a run: what the proof data says of the output window. -/
theorem run_result : θ_run defs (onTc (τ := τ) (main (F := F))) ⟨m, fun _ => 0, ρ⟩ (fun r => ∀ c : Dev nD,
      r.2.mem ((c : Thread nD τ).loc (Pipeline.arrRef spec0 6)) = (dats m 0 c).arrAt 6 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) := by
  refine (θ_run defs _ _).mono ?_ (θ_run_and (run m ρ) (frame_of m ρ (dats m) (A_eq m) (run m ρ)))
  intro r h c
  exact ⟨(h.1 c).1 6, h.2 c⟩

end Cert.KernelIdeal.Hand

end
-- ==== Proof.PBlocks.lean ====
/- What the body of the kernel as written is run on and what it computes: its branch conditions over the points, its memrefs,
   and the prepared block and the product as functions of the windows' blocks. -/
module

public import proofs.«01_k».proof.Proof.Gen.Kernel.Frame
public import proofs.«01_k».proof.Proof.Gen.Kernel.Skeleton
public import proofs.«01_k».proof.Proof.Blocks

@[expose] public section

set_option maxRecDepth 16384

noncomputable section

namespace Cert.Kernel.Hand

export Cert.Blocks (rowAt beside load_row load_all read_beside)

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

/-! ## The branch conditions, in closed form over the nine points -/

/-- Branch 0: a block was prepared at the point before. -/
abbrev br0 (i : grid0.Coords) : Prop := k0_cond1 i = 1#1
theorem hbr0 : ∀ t : Fin cfg0.N, br0 (grid0.coords t) ↔ 1 ≤ t.val :=
  (by decide +kernel : ∀ t : Fin grid0.N, br0 (grid0.coords t) ↔ 1 ≤ t.val)

/-- Branch 1: the point multiplies from the first scratch. -/
abbrev br1 (i : grid0.Coords) : Prop := k0_cond2 i = 1#1
theorem hbr1 : ∀ t : Fin cfg0.N, br1 (grid0.coords t) ↔ t.val % 2 = 1 :=
  (by decide +kernel : ∀ t : Fin grid0.N, br1 (grid0.coords t) ↔ t.val % 2 = 1)

/-- Branch 2: the point multiplies from the second scratch. -/
abbrev br2 (i : grid0.Coords) : Prop := k0_cond3 i = 1#1
theorem hbr2 : ∀ t : Fin cfg0.N, br2 (grid0.coords t) ↔ t.val % 2 = 0 :=
  (by decide +kernel : ∀ t : Fin grid0.N, br2 (grid0.coords t) ↔ t.val % 2 = 0)

/-- Branch 3: there is a block left to prepare. -/
abbrev br3 (i : grid0.Coords) : Prop := (Scalar.cmpi .ne (Scalar.extui (Scalar.cmpi .slt (BitVec.ofNat 32 (i 0).val) 8#32)) 0#32) = 1#1
theorem hbr3 : ∀ t : Fin cfg0.N, br3 (grid0.coords t) ↔ t.val < 8 :=
  (by decide +kernel : ∀ t : Fin grid0.N, br3 (grid0.coords t) ↔ t.val < 8)

/-- Branch 4: the point prepares into the first scratch. -/
abbrev br4 (i : grid0.Coords) : Prop := (Scalar.cmpi .ne (Scalar.extui (Scalar.cmpi .eq (Scalar.remsi (BitVec.ofNat 32 (i 0).val) 2#32) 0#32)) 0#32) = 1#1
theorem hbr4 : ∀ t : Fin cfg0.N, br4 (grid0.coords t) ↔ t.val % 2 = 0 :=
  (by decide +kernel : ∀ t : Fin grid0.N, br4 (grid0.coords t) ↔ t.val % 2 = 0)

/-- Branch 5: the point prepares into the second scratch. -/
abbrev br5 (i : grid0.Coords) : Prop := (Scalar.cmpi .ne (Scalar.extui (Scalar.cmpi .eq (Scalar.remsi (BitVec.ofNat 32 (i 0).val) 2#32) 1#32)) 0#32) = 1#1
theorem hbr5 : ∀ t : Fin cfg0.N, br5 (grid0.coords t) ↔ t.val % 2 = 1 :=
  (by decide +kernel : ∀ t : Fin grid0.N, br5 (grid0.coords t) ↔ t.val % 2 = 1)

/-! ## The memrefs the body is called with -/

/-- Window 0's staging memref at point `t`. -/
abbrev stg0 (t : Fin cfg0.N) : Memref sig .tc .vmem S512x2048 .f32 := win0_0.stage (cfg0.slots t 0)
theorem live0 : ∀ t : Fin cfg0.N, cfg0.idle 0 (grid0.coords t) = false := fun _ => rfl
/-- Window 1's staging memref at point `t`. -/
abbrev stg1 (t : Fin cfg0.N) : Memref sig .tc .vmem S8x2048 .f32 := win0_1.stage (cfg0.slots t 1)
theorem live1 : ∀ t : Fin cfg0.N, cfg0.idle 1 (grid0.coords t) = false := fun _ => rfl
/-- Window 2's staging memref at point `t`. -/
abbrev stg2 (t : Fin cfg0.N) : Memref sig .tc .vmem S16x2048 .bf16 := win0_2.stage (cfg0.slots t 2)
theorem live2 : ∀ t : Fin cfg0.N, cfg0.idle 2 (grid0.coords t) = false := fun _ => rfl
/-- Window 3's staging memref at point `t`. -/
abbrev stg3 (t : Fin cfg0.N) : Memref sig .tc .vmem S16x2048 .bf16 := win0_3.stage (cfg0.slots t 3)
theorem live3 : ∀ t : Fin cfg0.N, cfg0.idle 3 (grid0.coords t) = false := fun _ => rfl
/-- Window 4's staging memref at point `t`. -/
abbrev stg4 (t : Fin cfg0.N) : Memref sig .tc .vmem S4096x2048 .bf16 := win0_4.stage (cfg0.slots t 4)
theorem live4 : ∀ t : Fin cfg0.N, cfg0.idle 4 (grid0.coords t) = false := fun _ => rfl
/-- Window 5's staging memref at point `t`. -/
abbrev stg5 (t : Fin cfg0.N) : Memref sig .tc .vmem S8x2048 .f32 := win0_5.stage (cfg0.slots t 5)
theorem live5 : ∀ t : Fin cfg0.N, cfg0.idle 5 (grid0.coords t) = false := fun _ => rfl
/-- The output window's staging memref at point `t`. -/
abbrev stg6 (t : Fin cfg0.N) : Memref sig .tc .vmem S512x2048 .f32 := win0_6.stage (cfg0.slots t 6)
/-- The two scratch buffers, as the body is given them. -/
abbrev catA : Memref sig .tc .vmem S512x4096 .bf16 := Memref.whole cc0_scratch0
abbrev catB : Memref sig .tc .vmem S512x4096 .bf16 := Memref.whole cc0_scratch1

/-- What the launch keeps beside the windows: both scratch buffers at anything, and the generator register. -/
theorem rest_eq (c : Dev nD) :
    (Pipeline.ΦA spec0 c : sProp 𝕄)
      = iprop(iprop((∃ d, owns (c : Thread nD τ) catA fullShare d) ∗ (∃ d, owns (c : Thread nD τ) catB fullShare d)) ∗ (∃ r, prngReg c r)) := by
  unfold Pipeline.ΦA; rw [scopedRest0_eq]; simp only [catA, catB, owns_whole]; try rfl

/-- The output window is idle exactly at the first point, and is not written back there. -/
theorem idle6 : ∀ t : Fin cfg0.N, cfg0.idle 6 (grid0.coords t) = true ↔ t.val = 0 :=
  (by decide +kernel : ∀ t : Fin grid0.N, cfg0.idle 6 (grid0.coords t) = true ↔ t.val = 0)
theorem flush6 : ∀ t : Fin cfg0.N, (cfg0.win 6).flush t = true ↔ 1 ≤ t.val :=
  (by decide +kernel : ∀ t : Fin grid0.N, win0_6.flush t = true ↔ 1 ≤ t.val)

/-! ## What the body computes, as functions of the blocks -/

/-- The interpolated block: the spline of every entry of `x0`, from the scaled grid `x1` and the tables `x2` (values) and `x3` (differences),
    which are packed in one word, carried through the selects and split again. -/
def splineOf (x0 : Vec F S512x2048 .f32) (x1 : Vec F S8x2048 .f32) (x2 x3 : Vec F S16x2048 .bf16) : FVec F S512x2048 .bf16 :=
  k0_pay3 (k0_pay13 x0 (rowAt x1 0) (rowAt x1 2))
    (k0_pay15 (k0_pay10 x2 x3) (k0_pay12 x0 (rowAt x1 0) (rowAt x1 2)) (k0_pay14 x0 x2 x3 (rowAt x1 0) (rowAt x1 2)))
    (k0_pay16 (k0_pay10 x2 x3) (k0_pay12 x0 (rowAt x1 0) (rowAt x1 2)) (k0_pay14 x0 x2 x3 (rowAt x1 0) (rowAt x1 2)))

/-- What a point prepares in a scratch buffer: the interpolated block beside the rounded block. -/
def prepOf (x0 : Vec F S512x2048 .f32) (x1 : Vec F S8x2048 .f32) (x2 x3 : Vec F S16x2048 .bf16) : Vec F S512x4096 .bf16 :=
  beside (splineOf x0 x1 x2 x3) (k0_pay4 (k0_pay9 x0))

/-- What a point stores to the output: the prepared block times the joined weights, plus the bias row. -/
def mulOf (w : Vec F S512x4096 .bf16) (x4 : Vec F S4096x2048 .bf16) (x5 : Vec F S8x2048 .f32) : Vec F S512x2048 .f32 :=
  k0_pay1 w x4 (rowAt x5 0)

/-- A stored value is the computed one: the cast to the same shape changes nothing. -/
theorem pay2_eq (v13 : Vec F S512x4096 .bf16) (v14 : Vec F S4096x2048 .bf16) (v17 : Vec F S1x2048 .f32) : k0_pay2 v13 v14 v17 = k0_pay1 v13 v14 v17 := rfl
theorem pay5_eq (v35 : FVec F S512x2048 .f32) (v98 : IVec S512x2048 32) (v101 : FVec F S512x2048 .f32) : k0_pay5 v35 v98 v101 = k0_pay3 v35 v98 v101 :=
  shapeCast_self _ _
theorem pay6_eq (v : FVec F S512x2048 .f32) : k0_pay6 v = k0_pay4 v := shapeCast_self _ _
theorem pay7_eq (v35 : FVec F S512x2048 .f32) (v98 : IVec S512x2048 32) (v101 : FVec F S512x2048 .f32) : k0_pay7 v35 v98 v101 = k0_pay3 v35 v98 v101 :=
  shapeCast_self _ _
theorem pay8_eq (v : FVec F S512x2048 .f32) : k0_pay8 v = k0_pay4 v := shapeCast_self _ _

end Cert.Kernel.Hand

end
-- ==== Proof.Spline.lean ====
/- The scalar mathematics of the certificate, on the extended reals: the knot position of an input as the kernel and as the
   reference compute it, the segment it lies in, and the cubic on that segment when the tangents are zero. -/
module

public import Idealize.ShloMosaic.PureOps
public import Idealize.ShloMosaic.Lib.IdealHost
public import Idealize.ShloMosaic.Lib.Pointwise
public import Mathlib.Tactic.NormNum
public import Mathlib.Tactic.Ring
public import Mathlib.Tactic.Linarith

@[expose] public section

noncomputable section

namespace Cert.KernelIdeal.Hand

open Idealize.ShloMosaic

/-! ## The constants -/

theorem coe_max' (a b : ℝ) : ((max a b : ℝ) : EReal) = max (a : EReal) b := EReal.coe_strictMono.monotone.map_max

theorem coe_min' (a b : ℝ) : ((min a b : ℝ) : EReal) = min (a : EReal) b := EReal.coe_strictMono.monotone.map_min

theorem c2 : Ideal.ofBits .f32 0x40000000#32 = ((2 : ℝ) : EReal) := by
  simp [Ideal.ofBits, Ideal.ieee, -EReal.coe_mul] <;> norm_num
theorem c3 : Ideal.ofBits .f32 0x40400000#32 = ((3 : ℝ) : EReal) := by
  simp [Ideal.ofBits, Ideal.ieee, -EReal.coe_mul] <;> norm_num
theorem c4 : Ideal.ofBits .f32 0x40800000#32 = ((4 : ℝ) : EReal) := by
  simp [Ideal.ofBits, Ideal.ieee, -EReal.coe_mul] <;> norm_num
theorem c5 : Ideal.ofBits .f32 0x40A00000#32 = ((5 : ℝ) : EReal) := by
  simp [Ideal.ofBits, Ideal.ieee, -EReal.coe_mul] <;> norm_num
theorem c6 : Ideal.ofBits .f32 0x40C00000#32 = ((6 : ℝ) : EReal) := by
  simp [Ideal.ofBits, Ideal.ieee, -EReal.coe_mul] <;> norm_num
theorem c7 : Ideal.ofBits .f32 0x40E00000#32 = ((7 : ℝ) : EReal) := by
  simp [Ideal.ofBits, Ideal.ieee, -EReal.coe_mul] <;> norm_num
theorem c8 : Ideal.ofBits .f32 0x41000000#32 = ((8 : ℝ) : EReal) := by
  simp [Ideal.ofBits, Ideal.ieee, -EReal.coe_mul] <;> norm_num
theorem c9 : Ideal.ofBits .f32 0x41100000#32 = ((9 : ℝ) : EReal) := by
  simp [Ideal.ofBits, Ideal.ieee, -EReal.coe_mul] <;> norm_num
theorem c10 : Ideal.ofBits .f32 0x41200000#32 = ((10 : ℝ) : EReal) := by
  simp [Ideal.ofBits, Ideal.ieee, -EReal.coe_mul] <;> norm_num
theorem c11 : Ideal.ofBits .f32 0x41300000#32 = ((11 : ℝ) : EReal) := by
  simp [Ideal.ofBits, Ideal.ieee, -EReal.coe_mul] <;> norm_num
theorem cm2 : Ideal.ofBits .f32 0xC0000000#32 = ((-2 : ℝ) : EReal) := by
  simp [Ideal.ofBits, Ideal.ieee, -EReal.coe_mul] <;> norm_num

/-- The least span the programs divide by. -/
def eps : EReal := Ideal.ofBits .f32 0x358637BD#32

theorem eps_real : ∃ e : ℝ, 0 < e ∧ eps = (e : EReal) := by
  unfold eps
  refine ⟨8796093 * 2 ^ (-43 : ℤ), by norm_num, ?_⟩
  simp [Ideal.ofBits, Ideal.ieee, -EReal.coe_mul]

theorem top_word : Ideal.ofBits .f32 0x7F800000#32 = (⊤ : EReal) := by simp [Ideal.ofBits, Ideal.ieee]

/-! ## The position -/

/-- The position as the kernel computes it: scaled, then clipped. -/
def kernelPos (x lo hi : EReal) : EReal :=
  min (Ideal.ofBits .f32 0x41300000#32) (max 0
    ((x - lo) * Ideal.div (Ideal.ofBits .f32 0x41300000#32) (max eps (hi - lo))))

/-- The position as the reference computes it: clamped, then scaled. -/
def referencePos (x lo hi : EReal) : EReal :=
  Ideal.div (max (min x hi) lo - lo) (max eps (hi - lo)) * Ideal.ofBits .f32 0x41300000#32

/-- Where the last knot is at least the least span above the first, the two are one real between 0 and 11. -/
theorem pos_real (x lo hi : EReal) (h : eps ≤ hi - lo) :
    ∃ q : ℝ, 0 ≤ q ∧ q ≤ 11 ∧ kernelPos x lo hi = (q : EReal) ∧ referencePos x lo hi = (q : EReal) := by
  obtain ⟨e, he, heq⟩ := eps_real
  unfold kernelPos referencePos
  rw [max_eq_right h, c11]
  rw [heq] at h
  have hpos : (0 : EReal) < hi - lo := lt_of_lt_of_le (by exact_mod_cast he) h
  have hne : hi - lo ≠ 0 := hpos.ne'
  unfold Ideal.div
  rw [if_neg hne, if_neg hne]
  by_cases htop : hi - lo = ⊤
  · refine ⟨0, le_refl _, by norm_num, ?_, ?_⟩
    · rw [htop]; simp
    · rw [htop]; simp
  · have hlo : ∃ a : ℝ, lo = a := by
      induction lo using EReal.rec with
      | bot => induction hi using EReal.rec <;> simp_all
      | top => induction hi using EReal.rec <;> simp_all
      | coe a => exact ⟨a, rfl⟩
    obtain ⟨a, rfl⟩ := hlo
    have hhi : ∃ b : ℝ, hi = b := by
      induction hi using EReal.rec with
      | bot => simp_all
      | top => simp_all
      | coe a => exact ⟨a, rfl⟩
    obtain ⟨b, rfl⟩ := hhi
    have hab : a < b := by
      rw [← EReal.coe_sub] at hpos
      have : (0 : ℝ) < b - a := by exact_mod_cast hpos
      linarith
    have hr : 0 < b - a := by linarith
    have hq : ((b : EReal) - (a : EReal))⁻¹ = (((b - a)⁻¹ : ℝ) : EReal) := by
      rw [← EReal.coe_sub, EReal.coe_inv]
    rw [hq]
    have hinv : 0 < (b - a)⁻¹ := inv_pos.mpr hr
    have hs : 0 < 11 * (b - a)⁻¹ := by positivity
    induction x using EReal.rec with
    | bot =>
      refine ⟨0, le_refl _, by norm_num, ?_, ?_⟩
      · rw [EReal.bot_sub, ← EReal.coe_mul, EReal.bot_mul_coe_of_pos hs]
        simp
      · simp only [min_eq_left bot_le, max_eq_right bot_le]
        rw [← EReal.coe_sub]; simp
    | top =>
      refine ⟨11, by norm_num, le_refl _, ?_, ?_⟩
      · rw [EReal.top_sub_coe, ← EReal.coe_mul, EReal.top_mul_coe_of_pos hs]
        simp
      · rw [min_eq_right le_top, max_eq_left (by exact_mod_cast hab.le), ← EReal.coe_sub, ← EReal.coe_mul, mul_inv_cancel₀ hr.ne']
        simp
    | coe x =>
      refine ⟨(max (min x b) a - a) * (b - a)⁻¹ * 11, ?_, ?_, ?_, ?_⟩
      · have : a ≤ max (min x b) a := le_max_right _ _
        have : 0 ≤ max (min x b) a - a := by linarith
        positivity
      · have : max (min x b) a ≤ b := max_le (min_le_right _ _) hab.le
        have h1 : (max (min x b) a - a) * (b - a)⁻¹ ≤ 1 := by
          rw [← div_eq_mul_inv, div_le_one hr]; linarith
        linarith
      · rw [← EReal.coe_sub, ← EReal.coe_mul, ← EReal.coe_mul, ← EReal.coe_zero, ← coe_max', ← coe_min']
        congr 1
        rcases le_total x a with hx | hx
        · have h1 : (x - a) * (11 * (b - a)⁻¹) ≤ 0 := mul_nonpos_of_nonpos_of_nonneg (by linarith) hs.le
          rw [max_eq_left h1, max_eq_right (le_trans (min_le_left _ _) hx)]
          norm_num
        · have h1 : 0 ≤ (x - a) * (11 * (b - a)⁻¹) := mul_nonneg (by linarith) hs.le
          rw [max_eq_right h1, max_eq_left (le_min hx hab.le)]
          rcases le_total x b with hb | hb
          · rw [min_eq_left hb]
            have h2 : (x - a) * (b - a)⁻¹ ≤ 1 := by rw [← div_eq_mul_inv, div_le_one hr]; linarith
            rw [min_eq_right (by nlinarith)]
            ring
          · rw [min_eq_right hb, mul_inv_cancel₀ hr.ne']
            have h2 : 1 ≤ (x - a) * (b - a)⁻¹ := by rw [← div_eq_mul_inv, one_le_div hr]; linarith
            rw [min_eq_left (by nlinarith)]
            ring
      · rw [← coe_min', ← coe_max', ← EReal.coe_sub, ← EReal.coe_mul, ← EReal.coe_mul]

/-! ## The segment -/

/-- The segment a position lies in. -/
def segOf (q : ℝ) : Fin 11 := ⟨min ⌊q⌋₊ 10, by omega⟩

/-- The kernel's segment number: the floor, at most 10. -/
theorem floor_seg (q : ℝ) (h0 : 0 ≤ q) :
    min (Ideal.liftRound Int.floor (q : EReal)) (Ideal.ofBits .f32 0x41200000#32) = (((segOf q).val : ℝ) : EReal) := by
  rw [c10]
  show min ((((⌊q⌋ : ℤ) : ℝ)) : EReal) _ = _
  rw [← coe_min', ← natCast_floor_eq_intCast_floor h0]
  congr 1
  unfold segOf
  push_cast
  rfl

/-- The reference's segment word: truncated, then clipped to 0 and 10. -/
theorem trunc_seg (q : ℝ) (h0 : 0 ≤ q) (h11 : q ≤ 11) :
    IntOp.minsi 10#32 (IntOp.maxsi 0#32 (Ideal.fptosi 32 (q : EReal))) = BitVec.ofNat 32 (segOf q).val := by
  have hw : Ideal.fptosi 32 (q : EReal) = BitVec.ofNat 32 ⌊q⌋₊ := by
    unfold Ideal.fptosi
    have : Ideal.toIntClamped (-(2 ^ (32 - 1) : Nat)) ((2 ^ (32 - 1) : Nat) - 1) (q : EReal) = (⌊q⌋₊ : ℤ) := by
      show max _ (min _ (if 0 ≤ q then ⌊q⌋ else ⌈q⌉)) = _
      rw [if_pos h0]
      have h1 : ⌊q⌋ ≤ 11 := by
        have := Int.floor_le_floor h11
        simpa using this
      have h2 : (0 : ℤ) ≤ ⌊q⌋ := Int.floor_nonneg.mpr h0
      have h3 : ((⌊q⌋₊ : ℕ) : ℤ) = ⌊q⌋ := Int.natCast_floor_eq_floor h0
      rw [h3]
      norm_num
      omega
    rw [this]
    exact BitVec.ofInt_natCast ..
  have h1 : ⌊q⌋₊ ≤ 11 := by
    have := Nat.floor_le_floor h11
    simpa using this
  rw [hw]
  show _ = BitVec.ofNat 32 (min ⌊q⌋₊ 10)
  generalize ⌊q⌋₊ = n at h1 ⊢
  interval_cases n <;> decide

/-- A choice among eleven by comparing with the numbers 1 to 10, as the kernel chains it. -/
theorem pick_seg {α : Type} (k : Fin 11) (r0 r1 r2 r3 r4 r5 r6 r7 r8 r9 r10 : α) :
    (if (((k.val : ℝ) : EReal)) = ((10 : ℝ) : EReal) then r10 else if (((k.val : ℝ) : EReal)) = ((9 : ℝ) : EReal) then r9
      else if (((k.val : ℝ) : EReal)) = ((8 : ℝ) : EReal) then r8 else if (((k.val : ℝ) : EReal)) = ((7 : ℝ) : EReal) then r7
      else if (((k.val : ℝ) : EReal)) = ((6 : ℝ) : EReal) then r6 else if (((k.val : ℝ) : EReal)) = ((5 : ℝ) : EReal) then r5
      else if (((k.val : ℝ) : EReal)) = ((4 : ℝ) : EReal) then r4 else if (((k.val : ℝ) : EReal)) = ((3 : ℝ) : EReal) then r3
      else if (((k.val : ℝ) : EReal)) = ((2 : ℝ) : EReal) then r2 else if (((k.val : ℝ) : EReal)) = ((1 : ℝ) : EReal) then r1
      else r0)
      = (![r0, r1, r2, r3, r4, r5, r6, r7, r8, r9, r10] : Fin 11 → α) k := by
  simp only [EReal.coe_eq_coe_iff]
  fin_cases k <;> norm_num

/-! ## The masks and the cubic -/

/-- The mask of a logit. -/
def mask (a : EReal) : EReal := Ideal.div 1 (1 + Ideal.exp (-a))

/-- The mask is a real at every extended real. -/
theorem mask_real (a : EReal) : ∃ s : ℝ, mask a = (s : EReal) := by
  unfold mask
  rw [← EReal.coe_one]
  unfold Ideal.div
  induction a using EReal.rec with
  | bot =>
    refine ⟨0, ?_⟩
    rw [EReal.neg_bot, Ideal.exp_top, EReal.coe_add_top, if_neg (by simp)]
    simp
  | top =>
    refine ⟨1, ?_⟩
    rw [EReal.neg_top, Ideal.exp_bot]
    simp
  | coe a =>
    refine ⟨(1 + Real.exp (-a))⁻¹, ?_⟩
    have hne : (1 + Real.exp (-a)) ≠ 0 := by positivity
    rw [← EReal.coe_neg]
    rw [Ideal.exp_coe, ← EReal.coe_add, if_neg (by exact_mod_cast hne), ← EReal.coe_inv, ← EReal.coe_mul, one_mul]

/-- A feature's masked coefficient. -/
def maskedOf (C A : (⟨2, ![2048, 12]⟩ : Shape).Idx → EReal) (l : Fin 2048) (k : Fin 12) : EReal := C (ix2 l k) * mask (A (ix2 l k))

/-- With zero tangents the cubic Hermite form is the blend the kernel computes, whatever the knots' distance `dx`. -/
theorem hermite (t a b : ℝ) (dx : EReal) :
    (((Ideal.ofBits .f32 0x40000000#32 * ((t : EReal) * t * t) - Ideal.ofBits .f32 0x40400000#32 * ((t : EReal) * t)
          + 1) * (a : EReal)
        + ((t : EReal) * t * t - Ideal.ofBits .f32 0x40000000#32 * ((t : EReal) * t) + t) * 0 * dx)
        + (Ideal.ofBits .f32 0xC0000000#32 * ((t : EReal) * t * t) + Ideal.ofBits .f32 0x40400000#32 * ((t : EReal) * t)) * (b : EReal))
        + ((t : EReal) * t * t - (t : EReal) * t) * 0 * dx
      = (a : EReal) + ((Ideal.ofBits .f32 0x40400000#32 - Ideal.ofBits .f32 0x40000000#32 * (t : EReal)) * ((t : EReal) * t))
          * ((b : EReal) - a) := by
  rw [← EReal.coe_one, c2, c3, cm2]
  simp only [mul_zero, zero_mul, add_zero, ← EReal.coe_mul, ← EReal.coe_add, ← EReal.coe_sub]
  congr 1
  ring

end Cert.KernelIdeal.Hand

end
-- ==== Proof.KHost.lean ====
/- What the host code of the idealized kernel leaves in the arrays its windows read, entry by entry, of the arguments. -/
module

public import proofs.«01_k».proof.Proof.KBlocks
public import proofs.«01_k».proof.Proof.Spline
public import Idealize.ShloMosaic.Lib.Claim
public import Idealize.ShloMosaic.Lib.IdealHost
public import Idealize.ShloMosaic.Lib.Routing.OpsSet
public import Idealize.ShloMosaic.Lib.Pipeline.ValueKit

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL.Sem

/-! ## Writing one row of an array -/

/-- Writing a row of a zeroed array of eight rows, read at an entry. -/
theorem scatter_row {α : Type} (x : S8x2048.Idx → α) (i : IVec S1 32) (u : S2048.Idx → α) (k r : Fin 8) (l : Fin 2048)
    (hi : ∀ y, i y = BitVec.ofNat 32 k.val) :
    Host.scatter scatter_S8x2048_S1_S2048_0_0_0_0 (fun _ b => b) x i u (ix2 r l) = if r = k then u (ix1 l) else x (ix2 r l) := by
  have hlands : ∀ j : S2048.Idx, scatter_S8x2048_S1_S2048_0_0_0_0.resultIdx? j i = some (ix2 k (j 0)) := by
    intro j
    have hj : (j 0).val < 2048 := (j 0).isLt
    have hs : ∀ a : Fin 2, scatter_S8x2048_S1_S2048_0_0_0_0.start j i a = if a = 0 then (k.val : ℤ) else 0 := by
      intro a
      match a with
      | 0 =>
        unfold ScatterDims.start
        rw [dif_pos (show (0 : Fin 2) ∈ scatter_S8x2048_S1_S2048_0_0_0_0.scatterDimsToOperandDims from List.mem_singleton.mpr rfl), hi,
          StableHlo.Predicate.toInt_ofNat_small _ (by omega)]
        rfl
      | 1 =>
        unfold ScatterDims.start
        rw [dif_neg (show ¬ (1 : Fin 2) ∈ scatter_S8x2048_S1_S2048_0_0_0_0.scatterDimsToOperandDims from by
          simp [scatter_S8x2048_S1_S2048_0_0_0_0])]
        rfl
    have hw : ∀ a : Fin 2, scatter_S8x2048_S1_S2048_0_0_0_0.window j a = if a = 0 then 0 else (j 0).val := by
      intro a
      match a with
      | 0 =>
        unfold ScatterDims.window
        rw [dif_neg (show ¬ (0 : Fin 2) ∈ scatter_S8x2048_S1_S2048_0_0_0_0.sKept from by decide)]
        rfl
      | 1 =>
        unfold ScatterDims.window
        rw [dif_pos (show (1 : Fin 2) ∈ scatter_S8x2048_S1_S2048_0_0_0_0.sKept from by decide)]
        rfl
    have hin : ∀ a : Fin S8x2048.rank, 0 ≤ scatter_S8x2048_S1_S2048_0_0_0_0.start j i a + scatter_S8x2048_S1_S2048_0_0_0_0.window j a
        ∧ scatter_S8x2048_S1_S2048_0_0_0_0.start j i a + scatter_S8x2048_S1_S2048_0_0_0_0.window j a < S8x2048.size a := by
      intro a
      rw [hs a, hw a]
      match a with
      | 0 => show 0 ≤ (k.val : ℤ) + (0 : ℕ) ∧ (k.val : ℤ) + (0 : ℕ) < (8 : ℕ); omega
      | 1 => show 0 ≤ (0 : ℤ) + ((j 0).val : ℕ) ∧ (0 : ℤ) + ((j 0).val : ℕ) < (2048 : ℕ); omega
    unfold ScatterDims.resultIdx?
    rw [dif_pos hin]
    congr 1
    funext a
    refine Fin.ext ?_
    show (scatter_S8x2048_S1_S2048_0_0_0_0.start j i a + scatter_S8x2048_S1_S2048_0_0_0_0.window j a).toNat = _
    rw [hs a, hw a]
    match a with
    | 0 => show ((k.val : ℤ) + (0 : ℕ)).toNat = k.val; omega
    | 1 => show ((0 : ℤ) + ((j 0).val : ℕ)).toNat = (j 0).val; omega
  by_cases hr : r = k
  · rw [if_pos hr]
    subst hr
    refine Routing.scatter_set_hit _ x i u _ _ (fun j hj => ?_) (ix1 l) (hlands (ix1 l))
    rw [hlands j] at hj
    have h1 : (j 0).val = l.val := congrArg Fin.val (congrFun (Option.some.inj hj) (1 : Fin 2))
    refine congrArg u (funext fun a => ?_)
    match a with
    | ⟨0, _⟩ => exact Fin.ext h1
  · rw [if_neg hr]
    refine Routing.scatter_set_miss _ x i u _ (fun j hj => ?_)
    rw [hlands j] at hj
    exact hr (congrFun (Option.some.inj hj) (0 : Fin 2)).symm

/-! ## The arrays -/

/-- The knots' row of a feature. -/
abbrev knots (m : (ℓ : Loc nD τ sig) → Buf (Elt Ideal) ℓ) (c : Dev nD) : FVec Ideal S2048x12 .f32 := m ((c.tc : Thread nD τ).loc main_arg1)

/-- The masked coefficient of a feature. -/
abbrev masked (m : (ℓ : Loc nD τ sig) → Buf (Elt Ideal) ℓ) (c : Dev nD) (l : Fin 2048) (k : Fin 12) : EReal :=
  maskedOf (m ((c.tc : Thread nD τ).loc main_arg2)) (m ((c.tc : Thread nD τ).loc main_arg4)) l k

variable (m : (ℓ : Loc nD τ sig) → Buf (Elt Ideal) ℓ) (c : Dev nD)

theorem host_rows : (V m c main_v37 : FVec Ideal S4096x2048 .f32)
    = shapeCast S4096x2048 (m ((c.tc : Thread nD τ).loc main_arg0) : FVec Ideal S2x2048x2048 .f32) shapeCasts_S2x2048x2048_S4096x2048 := by
  simp only [V, hostOps0, hostOps0_1, hostOps0_2, hostOps0_3, hostOps0_4, hostOps0_5, hostOps0_6, List.flatten_cons, List.flatten_nil,
    List.append_nil, List.cons_append, List.nil_append]
  entry_read
  rfl

theorem host_low (l : Fin 2048) : (V m c main_v30 : FVec Ideal S8x2048 .f32) (ix2 0 l) = knots m c (ix2 l 0) := by
  simp only [V, hostOps0, hostOps0_1, hostOps0_2, hostOps0_3, hostOps0_4, hostOps0_5, hostOps0_6, List.flatten_cons, List.flatten_nil,
    List.append_nil, List.cons_append, List.nil_append]
  entry_read
  rw [scatter_row _ (broadcastInDim S1 ![] bcast_S_S1 (constantI S_ 32 2#32)) _ 2 _ _ (fun _ => rfl), if_neg (by decide), scatter_row _ (broadcastInDim S1 ![] bcast_S_S1 (constantI S_ 32 1#32)) _ 1 _ _ (fun _ => rfl), if_neg (by decide),
    scatter_row _ (broadcastInDim S1 ![] bcast_S_S1 (constantI S_ 32 0#32)) _ 0 _ _ (fun _ => rfl), if_pos rfl]
  pointwise []

theorem host_scale (l : Fin 2048) : (V m c main_v30 : FVec Ideal S8x2048 .f32) (ix2 2 l)
    = Ideal.div (Ideal.ofBits .f32 0x41300000#32) (max eps (knots m c (ix2 l 11) - knots m c (ix2 l 0))) := by
  simp only [V, hostOps0, hostOps0_1, hostOps0_2, hostOps0_3, hostOps0_4, hostOps0_5, hostOps0_6, List.flatten_cons, List.flatten_nil,
    List.append_nil, List.cons_append, List.nil_append]
  entry_read
  rw [scatter_row _ (broadcastInDim S1 ![] bcast_S_S1 (constantI S_ 32 2#32)) _ 2 _ _ (fun _ => rfl), if_pos rfl]
  show Host.divf (broadcastInDim S2048 ![] bcast_S_S2048 (constant S_ .f32 0x41300000#32))
    (maximumf (broadcastInDim S2048 ![] bcast_S_S2048 (constant S_ .f32 0x358637BD#32))
      (subf (shapeCast S2048 (extractStridedSlice S2048x1 ![0, 11] (knots m c) slices_S2048x12_S2048x1_0_11) shapeCasts_S2048x1_S2048)
        (shapeCast S2048 (extractStridedSlice S2048x1 ![0, 0] (knots m c) slices_S2048x12_S2048x1_0_0) shapeCasts_S2048x1_S2048))) (ix1 l) = _
  pointwise [Host.divf, eps]

theorem host_bias (l : Fin 2048) : (V m c main_v33 : FVec Ideal S8x2048 .f32) (ix2 0 l)
    = (m ((c.tc : Thread nD τ).loc main_arg6) : FVec Ideal S2048 .f32) (ix1 l) := by
  simp only [V, hostOps0, hostOps0_1, hostOps0_2, hostOps0_3, hostOps0_4, hostOps0_5, hostOps0_6, List.flatten_cons, List.flatten_nil,
    List.append_nil, List.cons_append, List.nil_append]
  entry_read
  rw [scatter_row _ (broadcastInDim S1 ![] bcast_S_S1 (constantI S_ 32 0#32)) _ 0 _ _ (fun _ => rfl), if_pos rfl]

/-- The masked coefficients as the host code computes them. -/
def maskedArr : FVec Ideal S2048x12 .f32 :=
  mulf (m ((c.tc : Thread nD τ).loc main_arg2) : FVec Ideal S2048x12 .f32)
    (Host.divf (broadcastInDim S2048x12 ![] bcast_S_S2048x12 (constant S_ .f32 0x3F800000#32))
      (addf (broadcastInDim S2048x12 ![] bcast_S_S2048x12 (constant S_ .f32 0x3F800000#32))
        (Host.exp (Host.negf (m ((c.tc : Thread nD τ).loc main_arg4) : FVec Ideal S2048x12 .f32)))))

theorem maskedArr_at (l : Fin 2048) (k : Fin 12) : maskedArr m c (ix2 l k) = masked m c l k := by
  pointwise [maskedArr, maskedOf, mask, Host.divf, Host.exp, Host.negf]

theorem host_value (l : Fin 2048) (k : Fin 11) : (V m c main_v12 : FVec Ideal S16x2048 .bf16) (ix2 ⟨k.val, by omega⟩ l)
    = masked m c l k.castSucc := by
  simp only [V, hostOps0, hostOps0_1, hostOps0_2, hostOps0_3, hostOps0_4, hostOps0_5, hostOps0_6, List.flatten_cons, List.flatten_nil,
    List.append_nil, List.cons_append, List.nil_append]
  entry_read
  show pad S16x2048 ![0, 0] ![5, 0] ![0, 0] (transpose S11x2048 [1, 0]
    (truncf .bf16 (extractStridedSlice S2048x11 ![0, 0] (maskedArr m c) slices_S2048x12_S2048x11_0_0) bitsLt_bf16_f32)
    transposes_S2048x11_S11x2048_1_0) _ pads_S11x2048_S16x2048_050_000 h_S_ (ix2 _ l) = _
  pointwise [maskedArr_at]
  rfl

theorem host_step (l : Fin 2048) (k : Fin 11) : (V m c main_v15 : FVec Ideal S16x2048 .bf16) (ix2 ⟨k.val, by omega⟩ l)
    = masked m c l k.succ - masked m c l k.castSucc := by
  simp only [V, hostOps0, hostOps0_1, hostOps0_2, hostOps0_3, hostOps0_4, hostOps0_5, hostOps0_6, List.flatten_cons, List.flatten_nil,
    List.append_nil, List.cons_append, List.nil_append]
  entry_read
  show pad S16x2048 ![0, 0] ![5, 0] ![0, 0] (transpose S11x2048 [1, 0]
    (truncf .bf16 (subf (extractStridedSlice S2048x11 ![0, 1] (maskedArr m c) slices_S2048x12_S2048x11_0_1)
      (extractStridedSlice S2048x11 ![0, 0] (maskedArr m c) slices_S2048x12_S2048x11_0_0)) bitsLt_bf16_f32)
    transposes_S2048x11_S11x2048_1_0) _ pads_S11x2048_S16x2048_050_000 h_S_ (ix2 _ l) = _
  pointwise [maskedArr_at]
  rw [show (⟨1 + k.val, by omega⟩ : Fin 12) = k.succ from Fin.ext (by show 1 + k.val = k.val + 1; omega)]
  rfl

theorem host_weight_top (k l : Fin 2048) : (V m c main_v36 : FVec Ideal S4096x2048 .bf16) (ix2 ⟨k.val, by omega⟩ l)
    = (m ((c.tc : Thread nD τ).loc main_arg5) : FVec Ideal S2048x2048 .f32) (ix2 k l) := by
  simp only [V, hostOps0, hostOps0_1, hostOps0_2, hostOps0_3, hostOps0_4, hostOps0_5, hostOps0_6, List.flatten_cons, List.flatten_nil,
    List.append_nil, List.cons_append, List.nil_append]
  entry_read
  pointwise []

theorem host_weight_bottom (k l : Fin 2048) : (V m c main_v36 : FVec Ideal S4096x2048 .bf16) (ix2 ⟨2048 + k.val, by omega⟩ l)
    = (m ((c.tc : Thread nD τ).loc main_arg7) : FVec Ideal S2048x2048 .f32) (ix2 k l) := by
  simp only [V, hostOps0, hostOps0_1, hostOps0_2, hostOps0_3, hostOps0_4, hostOps0_5, hostOps0_6, List.flatten_cons, List.flatten_nil,
    List.append_nil, List.cons_append, List.nil_append]
  entry_read
  pointwise []

end Cert.KernelIdeal.Hand

end
-- ==== Proof.KPoint.lean ====
/- The kernel's values one entry at a time: what a buffer half holds and what its product with the weights is. -/
module

public import proofs.«01_k».proof.Proof.KBlocks
public import proofs.«01_k».proof.Proof.Spline
public import Idealize.ShloMosaic.Lib.IdealHost
public import Idealize.ShloMosaic.Lib.Pointwise
public import Idealize.ShloMosaic.Lib.Pipeline.Value
public import Idealize.ShloMosaic.Lib.Pipeline.ValueKit

@[expose] public section

set_option maxRecDepth 16384

noncomputable section

namespace Cert.KernelIdeal.Hand

open Idealize.ShloMosaic Cert.KernelIdeal Cert.KernelIdeal.Gen

/-- Eight rows stacked sixty-four times: row `r` of the stack is row `r % 8` of the eight. -/
theorem stack_at {α : Type} (u : S8x2048.Idx → α) (r : Fin 512) (l : Fin 2048) (h) :
    concatenate S512x2048 0 (⟨S8x2048, u⟩ :: ⟨S8x2048, u⟩ :: ⟨S8x2048, u⟩ :: ⟨S8x2048, u⟩ :: ⟨S8x2048, u⟩ :: ⟨S8x2048, u⟩ :: ⟨S8x2048, u⟩ :: ⟨S8x2048, u⟩ ::
        ⟨S8x2048, u⟩ :: ⟨S8x2048, u⟩ :: ⟨S8x2048, u⟩ :: ⟨S8x2048, u⟩ :: ⟨S8x2048, u⟩ :: ⟨S8x2048, u⟩ :: ⟨S8x2048, u⟩ :: ⟨S8x2048, u⟩ ::
        ⟨S8x2048, u⟩ :: ⟨S8x2048, u⟩ :: ⟨S8x2048, u⟩ :: ⟨S8x2048, u⟩ :: ⟨S8x2048, u⟩ :: ⟨S8x2048, u⟩ :: ⟨S8x2048, u⟩ :: ⟨S8x2048, u⟩ ::
        ⟨S8x2048, u⟩ :: ⟨S8x2048, u⟩ :: ⟨S8x2048, u⟩ :: ⟨S8x2048, u⟩ :: ⟨S8x2048, u⟩ :: ⟨S8x2048, u⟩ :: ⟨S8x2048, u⟩ :: ⟨S8x2048, u⟩ ::
        ⟨S8x2048, u⟩ :: ⟨S8x2048, u⟩ :: ⟨S8x2048, u⟩ :: ⟨S8x2048, u⟩ :: ⟨S8x2048, u⟩ :: ⟨S8x2048, u⟩ :: ⟨S8x2048, u⟩ :: ⟨S8x2048, u⟩ ::
        ⟨S8x2048, u⟩ :: ⟨S8x2048, u⟩ :: ⟨S8x2048, u⟩ :: ⟨S8x2048, u⟩ :: ⟨S8x2048, u⟩ :: ⟨S8x2048, u⟩ :: ⟨S8x2048, u⟩ :: ⟨S8x2048, u⟩ ::
        ⟨S8x2048, u⟩ :: ⟨S8x2048, u⟩ :: ⟨S8x2048, u⟩ :: ⟨S8x2048, u⟩ :: ⟨S8x2048, u⟩ :: ⟨S8x2048, u⟩ :: ⟨S8x2048, u⟩ :: ⟨S8x2048, u⟩ ::
        ⟨S8x2048, u⟩ :: ⟨S8x2048, u⟩ :: ⟨S8x2048, u⟩ :: ⟨S8x2048, u⟩ :: ⟨S8x2048, u⟩ :: ⟨S8x2048, u⟩ :: ⟨S8x2048, u⟩ :: ⟨S8x2048, u⟩ :: []) h (ix2 r l)
      = u (ix2 ⟨r.val % 8, Nat.mod_lt _ (by decide)⟩ l) := by
  refine concatenate_replicate_apply (t := S512x2048) (s₁ := S8x2048) 0 64 u h rfl (ix2 r l) _ rfl ?_
  intro b hb
  match b with
  | ⟨0, _⟩ => exact absurd rfl hb
  | ⟨1, _⟩ => rfl

/-- One row stacked eight times: every row of the stack is that row. -/
theorem repeat_at {α : Type} (v : S1x2048.Idx → α) (r : Fin 8) (l : Fin 2048) (h) :
    concatenate S8x2048 0 [⟨S1x2048, v⟩, ⟨S1x2048, v⟩, ⟨S1x2048, v⟩, ⟨S1x2048, v⟩, ⟨S1x2048, v⟩, ⟨S1x2048, v⟩, ⟨S1x2048, v⟩, ⟨S1x2048, v⟩] h
      (ix2 r l) = v (ix2 0 l) := by
  refine concatenate_replicate_apply (t := S8x2048) (s₁ := S1x2048) 0 8 v h rfl (ix2 r l) _
    (by simp [Nat.mod_one]) ?_
  intro b hb
  match b with
  | ⟨0, _⟩ => exact absurd rfl hb
  | ⟨1, _⟩ => rfl

/-- A row cut from a table, at one of its entries. -/
theorem cut_at {α : Type} (k : Nat) (hk : k < 16) (T : S16x2048.Idx → α) (h) (l : Fin 2048) :
    extractStridedSlice S1x2048 ![k, 0] T h (ix2 0 l) = T (ix2 ⟨k, hk⟩ l) := by
  refine congrArg T ?_
  funext b
  match b with
  | ⟨0, _⟩ => exact Fin.ext (by simp [ix2])
  | ⟨1, _⟩ => exact Fin.ext (by simp [ix2])

/-- Where an entry lies on the uniform grid, for the row of low ends and the row of scales. -/
theorem place_at (x : Vec Ideal S512x2048 .f32) (g s : Vec Ideal S1x2048 .f32) (r : Fin 512)
    (l : Fin 2048) :
    k0_pay8 (F := Ideal) x g s (ix2 r l)
      = (min (Ideal.ofBits .f32 0x41300000#32)
          (max 0 (((x (ix2 r l) : EReal) - (g (ix2 0 l) : EReal)) * (s (ix2 0 l) : EReal))) : EReal) := by
  pointwise [k0_pay8, k0_pay5]

/-- The number of the piece an entry lies on. -/
theorem piece_at (x : Vec Ideal S512x2048 .f32) (g s : Vec Ideal S1x2048 .f32) (r : Fin 512)
    (l : Fin 2048) :
    k0_pay9 (F := Ideal) x g s (ix2 r l)
      = (min (Ideal.liftRound Int.floor (k0_pay8 (F := Ideal) x g s (ix2 r l)))
          (Ideal.ofBits .f32 0x41200000#32) : EReal) := by
  pointwise [k0_pay9]

/-- How far along its piece an entry lies. -/
theorem along_at (x : Vec Ideal S512x2048 .f32) (g s : Vec Ideal S1x2048 .f32) (r : Fin 512)
    (l : Fin 2048) :
    k0_pay10 (F := Ideal) x g s (ix2 r l)
      = ((k0_pay8 (F := Ideal) x g s (ix2 r l) : EReal)
          - (k0_pay9 (F := Ideal) x g s (ix2 r l) : EReal) : EReal) := by
  pointwise [k0_pay10]

/-- A product with the weights, at an entry. -/
theorem mulOf_at (w : FVec Ideal S512x4096 .bf16) (x4 : Vec Ideal S4096x2048 .bf16)
    (x5 : Vec Ideal S8x2048 .f32) (r : Fin 512) (l : Fin 2048) :
    mulOf (F := Ideal) w x4 x5 (ix2 r l)
      = ((∑ k : Fin 4096, (w (ix2 r k) : EReal) * (x4 (ix2 k l) : EReal)) + (x5 (ix2 0 l) : EReal) : EReal) := by
  unfold mulOf
  pointwise [k0_pay1]
  rfl

/-- A table's entry at the row a piece numbers, from the entries listed. -/
theorem listed (T : S16x2048.Idx → EReal) (l : Fin 2048) (k : Fin 11) :
    ![T (ix2 0 l), T (ix2 1 l), T (ix2 2 l), T (ix2 3 l), T (ix2 4 l), T (ix2 5 l), T (ix2 6 l), T (ix2 7 l), T (ix2 8 l),
      T (ix2 9 l), T (ix2 10 l)] k = T (ix2 (⟨k.val, by omega⟩ : Fin 16) l) := by
  fin_cases k <;> rfl

/-- The interpolated value at an entry lying at `q` on the uniform grid: the low value of its piece plus the smooth step
    times the piece's rise. -/
theorem splineOf_at (x0 : Vec Ideal S512x2048 .f32) (x1 : Vec Ideal S8x2048 .f32) (x2 x3 : Vec Ideal S16x2048 .bf16)
    (r : Fin 512) (l : Fin 2048) (q : ℝ) (h0 : 0 ≤ q)
    (hq : k0_pay8 (F := Ideal) x0 (rowAt x1 0) (rowAt x1 2) (ix2 r l) = ((q : ℝ) : EReal)) :
    splineOf (F := Ideal) x0 x1 x2 x3 (ix2 r l)
      = ((x2 (ix2 (⟨(segOf q).val, by omega⟩ : Fin 16) l) : EReal)
          + ((Ideal.ofBits .f32 0x40400000#32
                - Ideal.ofBits .f32 0x40000000#32 * ((q : EReal) - (((segOf q).val : ℝ) : EReal)))
              * (((q : EReal) - (((segOf q).val : ℝ) : EReal)) * ((q : EReal) - (((segOf q).val : ℝ) : EReal))))
            * (x3 (ix2 (⟨(segOf q).val, by omega⟩ : Fin 16) l) : EReal) : EReal) := by
  have h9 : k0_pay9 (F := Ideal) x0 (rowAt x1 0) (rowAt x1 2) (ix2 r l) = (((segOf q).val : ℝ) : EReal) := by
    rw [piece_at, hq]
    exact floor_seg q h0
  have h10 : k0_pay10 (F := Ideal) x0 (rowAt x1 0) (rowAt x1 2) (ix2 r l)
      = ((q : EReal) - (((segOf q).val : ℝ) : EReal) : EReal) := by
    rw [along_at, hq, h9]
  unfold splineOf
  generalize hk9 : k0_pay9 (F := Ideal) x0 (rowAt x1 0) (rowAt x1 2) = p9 at *
  generalize hk : k0_pay10 (F := Ideal) x0 (rowAt x1 0) (rowAt x1 2) = p10 at *
  pointwise [k0_pay24, k0_pay23, k0_pay22, k0_pay17, k0_pay18, k0_pay19, k0_pay20, k0_pay21, k0_pay16, k0_pay15, k0_pay14,
    k0_pay13, k0_pay12, k0_pay11, k0_pay7, k0_pay6, hk9, stack_at, repeat_at]
  simp only [h9, h10, c2, c3, c4, c5, c6, c7, c8, c9, c10]
  rw [show (1 : EReal) = ((1 : ℝ) : EReal) from rfl, pick_seg, pick_seg, listed x2, listed x3]

/-- A buffer's left half is the interpolated block. -/
theorem prepOf_left (x0 : Vec Ideal S512x2048 .f32) (x1 : Vec Ideal S8x2048 .f32) (x2 x3 : Vec Ideal S16x2048 .bf16)
    (r : Fin 512) (k : Fin 2048) :
    prepOf (F := Ideal) x0 x1 x2 x3 (ix2 r (⟨k.val, by omega⟩ : Fin 4096)) = splineOf (F := Ideal) x0 x1 x2 x3 (ix2 r k) := by
  unfold prepOf beside
  exact dif_pos k.isLt

/-- A buffer's right half is the block of rows itself. -/
theorem prepOf_right (x0 : Vec Ideal S512x2048 .f32) (x1 : Vec Ideal S8x2048 .f32) (x2 x3 : Vec Ideal S16x2048 .bf16)
    (r : Fin 512) (k : Fin 2048) :
    prepOf (F := Ideal) x0 x1 x2 x3 (ix2 r (⟨2048 + k.val, by omega⟩ : Fin 4096)) = (x0 (ix2 r k) : EReal) := by
  have hb : ∀ u w : FVec Ideal S512x2048 .bf16,
      beside (F := Ideal) u w (ix2 r (⟨2048 + k.val, by omega⟩ : Fin 4096)) = w (ix2 r k) := by
    intro u w
    unfold beside
    exact (dif_neg (show ¬ 2048 + k.val < 2048 by omega)).trans
      (congrArg w (congrArg (ix2 r) (Fin.ext (Nat.add_sub_cancel_left ..))))
  unfold prepOf
  rw [hb]
  pointwise [k0_pay25, k0_pay5]

end Cert.KernelIdeal.Hand

end
-- ==== Proof.KResult.lean ====
/- The result array of the idealized kernel after its run: every entry is the product computed at the grid point after the one
   that prepared its block. -/
module

public import proofs.«01_k».proof.Proof.KFrame
public import Idealize.ShloMosaic.Lib.Pipeline.ValueKit

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL.Sem
open Idealize.ShloMosaic.Pipeline (Dat Cfg Window)

variable {F : FTy → Type} [FloatOps F]

theorem index6 : ∀ t : Fin cfg0.N, win0_6.index t = ![t.val - 1, 0] := (by decide +kernel : ∀ t : Fin grid0.N, _)
theorem index0 : ∀ t : Fin cfg0.N, win0_0.index t = ![min t.val 7, 0] := (by decide +kernel : ∀ t : Fin grid0.N, _)
theorem index1 : ∀ t : Fin cfg0.N, win0_1.index t = ![0, 0] := (by decide +kernel : ∀ t : Fin grid0.N, _)
theorem index2 : ∀ t : Fin cfg0.N, win0_2.index t = ![0, 0] := (by decide +kernel : ∀ t : Fin grid0.N, _)
theorem index3 : ∀ t : Fin cfg0.N, win0_3.index t = ![0, 0] := (by decide +kernel : ∀ t : Fin grid0.N, _)
theorem index4 : ∀ t : Fin cfg0.N, win0_4.index t = ![0, 0] := (by decide +kernel : ∀ t : Fin grid0.N, _)
theorem index5 : ∀ t : Fin cfg0.N, win0_5.index t = ![0, 0] := (by decide +kernel : ∀ t : Fin grid0.N, _)

/-- The grid point that multiplies the block of row `r`. -/
def pointOf (r : Fin 4096) : Fin cfg0.N := ⟨r.val / 512 + 1, by show _ < 9; omega⟩

/-- The place of row `r` in its block. -/
def placeOf (r : Fin 4096) : Fin 512 := ⟨r.val % 512, by omega⟩

/-- The result array after the run. -/
def resultOf (m : (ℓ : Loc nD τ sig) → Buf (Elt F) ℓ) (c : Dev nD) : FVec F S4096x2048 .f32 :=
  fun i => prodAt m c (pointOf (i 0)) (ix2 (placeOf (i 0)) (i 1))

theorem resultOf_at (m : (ℓ : Loc nD τ sig) → Buf (Elt F) ℓ) (c : Dev nD) (e : S4096x2048.Idx) (t : Fin cfg0.N) (y : S512x2048.Idx)
    (ht : 1 ≤ t.val) (h0 : (e 0).val = (t.val - 1) * 512 + (y 0).val) (h1 : (e 1).val = (y 1).val) :
    resultOf m c e = prodAt m c t y := by
  have hy : (y 0).val < 512 := (y 0).isLt
  have hp : pointOf (e 0) = t := Fin.ext (by show (e 0).val / 512 + 1 = t.val; omega)
  have hq : ix2 (placeOf (e 0)) (e 1) = y := by
    funext d
    match d with
    | ⟨0, _⟩ => exact Fin.ext (by show (e 0).val % 512 = (y 0).val; omega)
    | ⟨1, _⟩ => exact Fin.ext h1
  show prodAt m c (pointOf (e 0)) (ix2 (placeOf (e 0)) (e 1)) = _
  rw [hp]
  exact congrArg (prodAt m c t) hq

theorem arr_result (m : (ℓ : Loc nD τ sig) → Buf (Elt F) ℓ) (c : Dev nD) : (dats m 0 c).arrAt 6 cfg0.N = resultOf m c := by
  refine (dats m 0 c).arrAt_eq_of_covers 6 _ (by decide +kernel) fun t hf y => ?_
  have h1 := (flush6 t).mp hf
  blk_simp
  rw [after6]
  refine (resultOf_at m c _ t y h1 ?_ ?_).symm
  · blk_simp [index6]
  · blk_simp [index6]

/-! ## The windows' blocks -/

/-- Row `r` of the rows' block at a point is row `512 · min t 7 + r` of the rows. -/
theorem rows_block (m : (ℓ : Loc nD τ sig) → Buf (Elt F) ℓ) (c : Dev nD) (t : Fin cfg0.N) (r : Fin 512) (l : Fin 2048) (n : Fin 4096)
    (hn : n.val = min t.val 7 * 512 + r.val) :
    (iblk m c 0 t : FVec F S512x2048 .f32) (ix2 r l) = (V m c main_v37 : FVec F S4096x2048 .f32) (ix2 n l) := by
  blk_simp [iblk]
  refine congrArg (V m c main_v37 : FVec F S4096x2048 .f32) ?_
  blk_ext [index0]

theorem params_block (m : (ℓ : Loc nD τ sig) → Buf (Elt F) ℓ) (c : Dev nD) (t : Fin cfg0.N) :
    (iblk m c 1 t : FVec F S8x2048 .f32) = (V m c main_v30 : FVec F S8x2048 .f32) := by
  funext y
  blk_simp [iblk]
  refine congrArg (V m c main_v30 : FVec F S8x2048 .f32) ?_
  blk_ext [index1]

theorem lows_block (m : (ℓ : Loc nD τ sig) → Buf (Elt F) ℓ) (c : Dev nD) (t : Fin cfg0.N) :
    (iblk m c 2 t : FVec F S16x2048 .bf16) = (V m c main_v12 : FVec F S16x2048 .bf16) := by
  funext y
  blk_simp [iblk]
  refine congrArg (V m c main_v12 : FVec F S16x2048 .bf16) ?_
  blk_ext [index2]

theorem steps_block (m : (ℓ : Loc nD τ sig) → Buf (Elt F) ℓ) (c : Dev nD) (t : Fin cfg0.N) :
    (iblk m c 3 t : FVec F S16x2048 .bf16) = (V m c main_v15 : FVec F S16x2048 .bf16) := by
  funext y
  blk_simp [iblk]
  refine congrArg (V m c main_v15 : FVec F S16x2048 .bf16) ?_
  blk_ext [index3]

theorem weights_block (m : (ℓ : Loc nD τ sig) → Buf (Elt F) ℓ) (c : Dev nD) (t : Fin cfg0.N) :
    (iblk m c 4 t : FVec F S4096x2048 .bf16) = (V m c main_v36 : FVec F S4096x2048 .bf16) := by
  funext y
  blk_simp [iblk]
  refine congrArg (V m c main_v36 : FVec F S4096x2048 .bf16) ?_
  blk_ext [index4]

theorem bias_block (m : (ℓ : Loc nD τ sig) → Buf (Elt F) ℓ) (c : Dev nD) (t : Fin cfg0.N) :
    (iblk m c 5 t : FVec F S8x2048 .f32) = (V m c main_v33 : FVec F S8x2048 .f32) := by
  funext y
  blk_simp [iblk]
  refine congrArg (V m c main_v33 : FVec F S8x2048 .f32) ?_
  blk_ext [index5]

end Cert.KernelIdeal.Hand

end
-- ==== Proof.KValue.lean ====
/- The idealized kernel's result, entry by entry, of the arguments. -/
module

public import proofs.«01_k».proof.Proof.KHost
public import proofs.«01_k».proof.Proof.KPoint
public import proofs.«01_k».proof.Proof.KResult
public import Idealize.ShloMosaic.Lib.Pointwise.Sums

@[expose] public section

set_option maxRecDepth 16384

noncomputable section

namespace Cert.KernelIdeal.Hand

open Cert.KernelIdeal Cert.KernelIdeal.Gen
open Idealize.ShloMosaic Idealize.ShloMosaic.TcCoe

variable (m : (ℓ : Loc nD τ sig) → Buf (Elt Ideal) ℓ) (c : Dev nD)

/-- The rows of the input. -/
abbrev rows : S4096x2048.Idx → EReal :=
  shapeCast S4096x2048 (m ((c.tc : Thread nD τ).loc main_arg0) : FVec Ideal S2x2048x2048 .f32) shapeCasts_S2x2048x2048_S4096x2048

/-- The weights of the interpolated rows. -/
abbrev weights : S2048x2048.Idx → EReal := m ((c.tc : Thread nD τ).loc main_arg5)

/-- The bias. -/
abbrev bias : S2048.Idx → EReal := m ((c.tc : Thread nD τ).loc main_arg6)

/-- The weights of the rows themselves. -/
abbrev direct : S2048x2048.Idx → EReal := m ((c.tc : Thread nD τ).loc main_arg7)

/-- The interpolated value of a row at a feature, as the point before the row's product prepares it. -/
def splineAt (n : Fin 4096) (l : Fin 2048) : EReal :=
  splineOf (F := Ideal) (iblk m c 0 (prev (pointOf n))) (iblk m c 1 (prev (pointOf n))) (iblk m c 2 (prev (pointOf n)))
    (iblk m c 3 (prev (pointOf n))) (ix2 (placeOf n) l)

/-- The block a point prepares from holds the row its product is of. -/
theorem row_entry (n : Fin 4096) (l : Fin 2048) :
    (iblk m c 0 (prev (pointOf n)) : FVec Ideal S512x2048 .f32) (ix2 (placeOf n) l) = rows m c (ix2 n l) :=
  (rows_block m c _ _ l n (by
    show n.val = min (n.val / 512 + 1 - 1) 7 * 512 + n.val % 512
    omega)).trans (congrFun (host_rows m c) _)

/-- The interpolated value, of the place on the grid and the two masked coefficients around it. -/
theorem splineAt_eq (n : Fin 4096) (l : Fin 2048) (p : ℝ) (h0 : 0 ≤ p)
    (hp : kernelPos (rows m c (ix2 n l)) (knots m c (ix2 l 0)) (knots m c (ix2 l 11)) = ((p : ℝ) : EReal)) :
    splineAt m c n l
      = masked m c l (segOf p).castSucc
          + ((Ideal.ofBits .f32 0x40400000#32
                - Ideal.ofBits .f32 0x40000000#32 * ((p : EReal) - (((segOf p).val : ℝ) : EReal)))
              * (((p : EReal) - (((segOf p).val : ℝ) : EReal)) * ((p : EReal) - (((segOf p).val : ℝ) : EReal))))
            * (masked m c l (segOf p).succ - masked m c l (segOf p).castSucc) := by
  have hq : k0_pay8 (F := Ideal) (iblk m c 0 (prev (pointOf n))) (rowAt (iblk m c 1 (prev (pointOf n))) 0)
      (rowAt (iblk m c 1 (prev (pointOf n))) 2) (ix2 (placeOf n) l) = ((p : ℝ) : EReal) := by
    have e0 : rowAt (F := Ideal) (iblk m c 1 (prev (pointOf n))) 0 (ix2 0 l) = knots m c (ix2 l 0) :=
      (congrFun (params_block m c _) _).trans (host_low m c l)
    have e2 : rowAt (F := Ideal) (iblk m c 1 (prev (pointOf n))) 2 (ix2 0 l)
        = Ideal.div (Ideal.ofBits .f32 0x41300000#32) (max eps (knots m c (ix2 l 11) - knots m c (ix2 l 0))) :=
      (congrFun (params_block m c _) _).trans (host_scale m c l)
    rw [place_at, row_entry, e0, e2]
    exact hp
  unfold splineAt
  rw [splineOf_at _ _ _ _ _ _ p h0 hq]
  rw [show (iblk m c 2 (prev (pointOf n)) : FVec Ideal S16x2048 .bf16) = V m c main_v12 from lows_block m c _,
    show (iblk m c 3 (prev (pointOf n)) : FVec Ideal S16x2048 .bf16) = V m c main_v15 from steps_block m c _,
    host_value, host_step]

/-- The result at an entry: the two products, summed, and the bias. -/
theorem result_entry (n : Fin 4096) (q : Fin 2048) :
    (resultOf m c (ix2 n q) : EReal)
      = ((∑ k : Fin 2048, splineAt m c n k * weights m c (ix2 k q)) + ∑ k : Fin 2048, rows m c (ix2 n k) * direct m c (ix2 k q))
          + bias m c (ix1 q) := by
  show mulOf (F := Ideal) (prepAt m c (prev (pointOf n))) (iblk m c 4 (pointOf n)) (iblk m c 5 (pointOf n)) (ix2 (placeOf n) q) = _
  rw [mulOf_at, weights_block, bias_block, host_bias, Fin.sum_univ_two_halves 2048 2048 rfl]
  refine congrArg₂ (fun a b : EReal => a + b) (congrArg₂ (fun a b : EReal => a + b)
    (Finset.sum_congr rfl fun k _ => ?_) (Finset.sum_congr rfl fun k _ => ?_)) rfl
  · rw [host_weight_top]
    exact congrArg (fun z : EReal => z * weights m c (ix2 k q)) (prepOf_left _ _ _ _ _ _)
  · rw [host_weight_bottom]
    exact congrArg (fun z : EReal => z * direct m c (ix2 k q)) ((prepOf_right _ _ _ _ _ _).trans (row_entry m c n k))

end Cert.KernelIdeal.Hand

end
-- ==== Proof.RSort.lean ====
/- The reference's index work, read: sorting ascending rows moves nothing, the gathers at the sorted positions return the arrays,
   and the two-coordinate gathers read the entry they name. -/
module

public import proofs.«01_k».proof.Proof.Gen.ReferenceIdeal.Run
public import Idealize.ShloMosaic.Lib.Pointwise
public import Idealize.ShloMosaic.Lib.Pipeline.Value
public import Idealize.ShloMosaic.Lib.StableHlo.Predicate

@[expose] public section

set_option maxRecDepth 16384

noncomputable section

namespace Cert.ReferenceIdeal.Read

open Cert.ReferenceIdeal Cert.ReferenceIdeal.Gen Cert.ReferenceIdeal.Value
open Idealize.ShloMosaic Idealize.ShloMosaic.TcCoe Idealize.ShloMosaic.StableHlo

/-! ## Sorting an ascending row -/

/-- An ordered list sorts to itself. -/
theorem stableSort_ordered {ι : Type} (before : ι → ι → Bool) (l : List ι) (h : l.Pairwise fun a b => before b a = false) :
    stableSort before l = l := by
  induction l with
  | nil => rfl
  | cons a l ih =>
    rw [List.pairwise_cons] at h
    unfold stableSort
    rw [ih h.2]
    cases l with
    | nil => rfl
    | cons b l =>
      unfold insertBefore
      rw [h.1 b (List.mem_cons_self ..)]
      rfl

/-- The sorting permutation of an ordered sequence is the identity. -/
theorem sortedFrom_ordered {n : Nat} (before : Fin n → Fin n → Bool) (h : ∀ a b : Fin n, a < b → before b a = false) (k : Fin n) :
    sortedFrom before k = k := by
  have hs : sortPositions n before = List.finRange n :=
    stableSort_ordered before _ ((List.pairwise_lt_finRange n).imp fun hab => h _ _ hab)
  unfold sortedFrom
  rw [List.get_eq_getElem, List.getElem_of_eq hs]
  simp

/-- The comparator orders pairs by their first components. -/
theorem comparator_eq (l r : Ideal .f32 × BitVec 32) :
    comparator_f32_i32_d1 (F := Ideal) l r = BitVec.ofBool (decide ((l.1 : EReal) < r.1)) := by
  have key : ∀ x : EReal, Scalar.select (Ideal.cmp .une x x) (Ideal.ofBits .f32 0x7FC00000#32)
      (Scalar.select (Ideal.cmp .oeq x (Ideal.ofBits .f32 0x00000000#32)) (Ideal.ofBits .f32 0x00000000#32) x) = x := by
    intro x
    generalize Ideal.ofBits .f32 0x00000000#32 = z
    by_cases hx : x = z
    · simp [Ideal.cmp, Scalar.select, ← hx]
    · simp [Ideal.cmp, Scalar.select, hx]
  show Ideal.cmpTotal .lt (Scalar.select (Ideal.cmp .une l.1 l.1) (Ideal.ofBits .f32 0x7FC00000#32)
      (Scalar.select (Ideal.cmp .oeq l.1 (Ideal.ofBits .f32 0x00000000#32)) (Ideal.ofBits .f32 0x00000000#32) l.1))
    (Scalar.select (Ideal.cmp .une r.1 r.1) (Ideal.ofBits .f32 0x7FC00000#32)
      (Scalar.select (Ideal.cmp .oeq r.1 (Ideal.ofBits .f32 0x00000000#32)) (Ideal.ofBits .f32 0x00000000#32) r.1)) = _
  rw [key, key]
  rfl

/-- The sorted positions of an array with ascending rows: each position itself. -/
theorem sorted_positions (G : FVec Ideal S2048x12 .f32) (I : IVec S2048x12 32)
    (hG : ∀ (f : Fin 2048) (a b : Fin 12), a ≤ b → (G (ix2 f a) : EReal) ≤ G (ix2 f b)) (j : S2048x12.Idx) :
    (Host.sort2 S2048x12 1 comparator_f32_i32_d1 G I).2 j = I j := by
  unfold Host.sort2
  rw [dif_pos (by decide)]
  show I (j.along 1 (sortedFrom _ (j 1))) = I j
  rw [sortedFrom_ordered]
  · unfold Shape.Idx.along
    rw [Function.update_eq_self]
  · intro a b hab
    rw [comparator_eq]
    have hrow : ∀ k : Fin 12, j.along (1 : Fin 2) k = ix2 (j 0) k := by
      intro k
      funext d
      match d with
      | ⟨0, _⟩ => rfl
      | ⟨1, _⟩ => rfl
    have h : (G (j.along (1 : Fin 2) a) : EReal) ≤ G (j.along (1 : Fin 2) b) := by
      have h' := hG (j 0) a b hab.le
      have ea := congrArg G (hrow a)
      have eb := congrArg G (hrow b)
      exact (ea.trans_le h').trans_eq eb.symm
    show (BitVec.ofBool (decide ((G (j.along (1 : Fin 2) b) : EReal) < G (j.along (1 : Fin 2) a))) == 1#1) = false
    rw [decide_eq_false (not_lt.mpr h)]
    rfl

/-! ## The reductions by `and`, and the gathers -/

/-- The `and` of ones is one. -/
theorem reduce_ones {s t u : Shape} {axes : List (Fin s.rank)} (x : IVec s 1) (v : IVec u 1) (h : s.ReducesTo axes t) (hu : 0 < u.numel)
    (hx : ∀ i, x i = 1#1) (hv : ∀ i, v i = 1#1) (j : t.Idx) : Host.reduce IntOp.andi x v h hu j = 1#1 := by
  unfold Host.reduce
  rw [hv]
  generalize List.filter _ _ = l
  induction l with
  | nil => rfl
  | cons n l ih =>
    rw [List.foldl_cons, hx]
    exact ih

/-- The batched gather along a row, at a start index that is in range: the entry it names. -/
theorem gather_row (A : FVec Ideal S2048x12 .f32) (I : IVec S2048x12x1 32) (r : Fin 2048) (l k : Fin 12)
    (hI : I (ix3 r l 0) = BitVec.ofNat 32 k.val) :
    Host.gather gather_S2048x12_S2048x12x1_S2048x12_n_1_0_0_1_2_11 A I (ix2 r l) = A (ix2 r k) := by
  unfold Host.gather
  congr 1
  funext a
  refine Fin.ext ?_
  show GatherDims.start _ (ix2 r l) I a + GatherDims.batchCoord _ (ix2 r l) a + GatherDims.offCoord _ (ix2 r l) a = _
  have h01 : a = 0 ∨ a = 1 := by
    match a with
    | ⟨0, _⟩ => exact Or.inl rfl
    | ⟨1, _⟩ => exact Or.inr rfl
  rcases h01 with rfl | rfl
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (0 : Fin 2) ∈ gather_S2048x12_S2048x12x1_S2048x12_n_1_0_0_1_2_11.operandBatchingDims from List.mem_singleton.mpr rfl)]
    rfl
  · rw [GatherDims.batchCoord_eq_zero _ _ _ (fun h => by simp [gather_S2048x12_S2048x12x1_S2048x12_n_1_0_0_1_2_11] at h),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ gather_S2048x12_S2048x12x1_S2048x12_n_1_0_0_1_2_11.startIndexMap from List.mem_singleton.mpr rfl)]
    have hsi : gather_S2048x12_S2048x12x1_S2048x12_n_1_0_0_1_2_11.siIdx (ix2 r l)
        ⟨List.idxOf (1 : Fin 2) gather_S2048x12_S2048x12x1_S2048x12_n_1_0_0_1_2_11.startIndexMap,
          List.idxOf_lt_length_iff.2 (List.mem_singleton.mpr rfl)⟩ = ix3 r l 0 := by
      funext b; refine Fin.ext ?_
      match b with
      | ⟨0, _⟩ => rfl
      | ⟨1, _⟩ => rfl
      | ⟨2, _⟩ => rfl
    rw [(congrArg I hsi).trans hI, Predicate.toInt_ofNat_small _ (by omega)]
    show min (k.val : ℤ).toNat 11 = k.val
    omega

/-- The two-coordinate gather, at a row and a column in range: the entry they name. -/
theorem gather_entry (A : FVec Ideal S2048x12 .f32) (I : IVec S4096x2048x2 32) (n : Fin 4096) (q f : Fin 2048) (k : Fin 12)
    (h0 : I (ix3 n q 0) = BitVec.ofNat 32 f.val) (h1 : I (ix3 n q 1) = BitVec.ofNat 32 k.val) :
    Host.gather gather_S2048x12_S4096x2048x2_S4096x2048_n_01_n_n_01_2_11 A I (ix2 n q) = A (ix2 f k) := by
  unfold Host.gather
  congr 1
  funext a
  refine Fin.ext ?_
  show GatherDims.start _ (ix2 n q) I a + GatherDims.batchCoord _ (ix2 n q) a + GatherDims.offCoord _ (ix2 n q) a = _
  have hmem : a ∈ gather_S2048x12_S4096x2048x2_S4096x2048_n_01_n_n_01_2_11.collapsedSliceDims := by
    match a with
    | ⟨0, _⟩ => exact List.mem_cons_self ..
    | ⟨1, _⟩ => exact List.mem_cons_of_mem _ (List.mem_singleton.mpr rfl)
  have hmap : a ∈ gather_S2048x12_S4096x2048x2_S4096x2048_n_01_n_n_01_2_11.startIndexMap := hmem
  rw [GatherDims.batchCoord_eq_zero _ _ _ (fun h => by simp [gather_S2048x12_S4096x2048x2_S4096x2048_n_01_n_n_01_2_11] at h),
    GatherDims.offCoord_eq_zero _ _ _ (fun h => ((GatherDims.mem_sKept _ _).mp h).1 hmem)]
  simp only [Nat.add_zero]
  unfold GatherDims.start
  rw [dif_pos hmap]
  have h01 : a = 0 ∨ a = 1 := by
    match a with
    | ⟨0, _⟩ => exact Or.inl rfl
    | ⟨1, _⟩ => exact Or.inr rfl
  rcases h01 with rfl | rfl
  · have hsi : gather_S2048x12_S4096x2048x2_S4096x2048_n_01_n_n_01_2_11.siIdx (ix2 n q)
        ⟨List.idxOf (0 : Fin 2) gather_S2048x12_S4096x2048x2_S4096x2048_n_01_n_n_01_2_11.startIndexMap,
          List.idxOf_lt_length_iff.2 hmap⟩ = ix3 n q 0 := by
      funext b; refine Fin.ext ?_
      match b with
      | ⟨0, _⟩ => rfl
      | ⟨1, _⟩ => rfl
      | ⟨2, _⟩ => rfl
    rw [(congrArg I hsi).trans h0, Predicate.toInt_ofNat_small _ (by omega)]
    show min (f.val : ℤ).toNat 2047 = f.val
    omega
  · have hsi : gather_S2048x12_S4096x2048x2_S4096x2048_n_01_n_n_01_2_11.siIdx (ix2 n q)
        ⟨List.idxOf (1 : Fin 2) gather_S2048x12_S4096x2048x2_S4096x2048_n_01_n_n_01_2_11.startIndexMap,
          List.idxOf_lt_length_iff.2 hmap⟩ = ix3 n q 1 := by
      funext b; refine Fin.ext ?_
      match b with
      | ⟨0, _⟩ => rfl
      | ⟨1, _⟩ => rfl
      | ⟨2, _⟩ => rfl
    rw [(congrArg I hsi).trans h1, Predicate.toInt_ofNat_small _ (by omega)]
    show min (k.val : ℤ).toNat 11 = k.val
    omega

end Cert.ReferenceIdeal.Read

end
-- ==== Proof.RValue.lean ====
/- What the reference computes, entry by entry, of its arguments. -/
module

public import proofs.«01_k».proof.Proof.RSort
public import proofs.«01_k».proof.Proof.Spline
public import Idealize.ShloMosaic.Lib.IdealHost

@[expose] public section

set_option maxRecDepth 16384

noncomputable section

namespace Cert.ReferenceIdeal.Read

open Cert.ReferenceIdeal Cert.ReferenceIdeal.Gen Cert.ReferenceIdeal.Value
open Idealize.ShloMosaic Idealize.ShloMosaic.TcCoe Idealize.ShloMosaic.StableHlo
open Cert.KernelIdeal.Hand (maskedOf mask referencePos segOf)

/-- A small number is not negative, so the wrap of negative positions leaves it. -/
theorem not_wrapped (k : Nat) (hk : k < 2 ^ 31) (n : BitVec 32) :
    Scalar.select (IntOp.cmpi .slt (BitVec.ofNat 32 k) 0#32) (IntOp.addi (BitVec.ofNat 32 k) n) (BitVec.ofNat 32 k) = BitVec.ofNat 32 k := by
  have h : IntOp.cmpi .slt (BitVec.ofNat 32 k) 0#32 = 0#1 := by
    show BitVec.ofBool ((BitVec.ofNat 32 k).slt 0#32) = 0#1
    have : (BitVec.ofNat 32 k).slt 0#32 = false := by
      rw [BitVec.slt, Predicate.toInt_ofNat_small k hk]
      simp
    rw [this]
    rfl
  rw [h]
  rfl

/-- Positions already in range, made non-negative and given a last axis: unchanged. -/
theorem positions (P : IVec S2048x12 32) (hP : ∀ (f : Fin 2048) (a : Fin 12), P (ix2 f a) = BitVec.ofNat 32 a.val) (f : Fin 2048) (a : Fin 12) :
    shapeCast S2048x12x1 (select (cmpi .slt P (broadcastInDim S2048x12 ![] bcast_S_S2048x12 (constantI S_ 32 0#32)))
        (addi P (broadcastInDim S2048x12 ![] bcast_S_S2048x12 (constantI S_ 32 12#32))) P) shapeCasts_S2048x12_S2048x12x1 (ix3 f a 0)
      = BitVec.ofNat 32 a.val := by
  pointwise []
  rw [hP]
  exact not_wrapped _ (by omega) _

/-- Taking along the last axis at the positions themselves returns the array. -/
theorem take_id (A : Vec Ideal S2048x12 .f32) (I : IVec S2048x12x1 32) (hI : ∀ (f : Fin 2048) (a : Fin 12), I (ix3 f a 0) = BitVec.ofNat 32 a.val) :
    select (Host.reduce IntOp.andi (andi (cmpi .sge I (broadcastInDim S2048x12x1 ![] bcast_S_S2048x12x1 (constantI S_ 32 0#32))) (cmpi .sle I (broadcastInDim S2048x12x1 ![0, 1, 2] bcast_S1x1x1_S2048x12x1_0_1_2 (broadcastInDim S1x1x1 ![2] bcast_S1_S1x1x1_2 (constantI S1 32 11#32))))) (constantI S_ 1 1#1) reducesTo_S2048x12x1_S2048x12_d2 h_S_) (Host.gather gather_S2048x12_S2048x12x1_S2048x12_n_1_0_0_1_2_11 A I) (broadcastInDim S2048x12 ![] bcast_S_S2048x12 (constant (F := Ideal) S_ .f32 0x7FC00000#32))
      = A := by
  have hmask : ∀ i, andi (cmpi .sge I (broadcastInDim S2048x12x1 ![] bcast_S_S2048x12x1 (constantI S_ 32 0#32))) (cmpi .sle I (broadcastInDim S2048x12x1 ![0, 1, 2] bcast_S1x1x1_S2048x12x1_0_1_2 (broadcastInDim S1x1x1 ![2] bcast_S1_S1x1x1_2 (constantI S1 32 11#32)))) i = 1#1 := by
    intro i
    obtain ⟨f, a, z, rfl⟩ : ∃ (f : Fin 2048) (a : Fin 12) (z : Fin 1), i = ix3 f a z := ⟨i 0, i 1, i 2, by
      funext b
      match b with
      | ⟨0, _⟩ => rfl
      | ⟨1, _⟩ => rfl
      | ⟨2, _⟩ => rfl⟩
    obtain rfl : z = 0 := Subsingleton.elim _ _
    pointwise []
    rw [hI]
    revert a
    decide
  funext j
  obtain ⟨f, a, rfl⟩ : ∃ (f : Fin 2048) (a : Fin 12), j = ix2 f a := ⟨j 0, j 1, by
    funext b
    match b with
    | ⟨0, _⟩ => rfl
    | ⟨1, _⟩ => rfl⟩
  unfold select
  dsimp only
  rw [reduce_ones _ (constantI S_ 1 1#1) _ _ hmask (fun _ => rfl), gather_row A I f a a (hI f a)]
  rfl

/-- The gather by a row and a column number reads that entry. -/
theorem gather_pair (A : Vec Ideal S2048x12 .f32) (P : IVec S1x2048 32) (w : IVec S4096x2048 32) (n : Fin 4096) (q : Fin 2048) (k : Fin 12)
    (hP : P (ix2 0 q) = BitVec.ofNat 32 q.val) (hw : w (ix2 n q) = BitVec.ofNat 32 k.val) :
    Host.gather gather_S2048x12_S4096x2048x2_S4096x2048_n_01_n_n_01_2_11 A (concatenate S4096x2048x2 2 [⟨S4096x2048x1, (broadcastInDim S4096x2048x1 ![0, 1] bcast_S4096x2048_S4096x2048x1_0_1 (broadcastInDim S4096x2048 ![0, 1] bcast_S1x2048_S4096x2048_0_1 (select (cmpi .slt P (broadcastInDim S1x2048 ![] bcast_S_S1x2048 (constantI S_ 32 0#32))) (addi P (broadcastInDim S1x2048 ![] bcast_S_S1x2048 (constantI S_ 32 2048#32))) P)))⟩, ⟨S4096x2048x1, (broadcastInDim S4096x2048x1 ![0, 1] bcast_S4096x2048_S4096x2048x1_0_1 (select (cmpi .slt w (broadcastInDim S4096x2048 ![] bcast_S_S4096x2048 (constantI S_ 32 0#32))) (addi w (broadcastInDim S4096x2048 ![] bcast_S_S4096x2048 (constantI S_ 32 12#32))) w))⟩] concatenates_S4096x2048x1_S4096x2048x1_S4096x2048x2_d2) (ix2 n q)
      = A (ix2 q k) := by
  refine gather_entry A _ n q q k ?_ ?_
  · pointwise []
    rw [hP]
    exact not_wrapped _ (by omega) _
  · pointwise []
    rw [hw]
    exact not_wrapped _ (by omega) _

/-- The two products and the bias, at an entry. -/
theorem products_at (Y : FVec Ideal S4096x2048 .f32) (W U : FVec Ideal S2048x2048 .f32) (b : FVec Ideal S2048 .f32) (X : FVec Ideal S2x2048x2048 .f32)
    (n : Fin 4096) (q : Fin 2048) :
    shapeCast S4096x2048 (addf (addf (Host.dotGeneral dot_S2x2048x2048_S2048x2048_S2x2048x2048_2_0_01_1_n_n none (shapeCast S2x2048x2048 Y shapeCasts_S4096x2048_S2x2048x2048) W) (broadcastInDim S2x2048x2048 ![0, 1, 2] bcast_S1x1x2048_S2x2048x2048_0_1_2 (broadcastInDim S1x1x2048 ![2] bcast_S2048_S1x1x2048_2 b))) (Host.dotGeneral dot_S2x2048x2048_S2048x2048_S2x2048x2048_2_0_01_1_n_n none X U)) shapeCasts_S2x2048x2048_S4096x2048 (ix2 n q)
      = (((∑ k : Fin 2048, (Y (ix2 n k) : EReal) * (W (ix2 k q) : EReal)) + (b (ix1 q) : EReal))
          + ∑ k : Fin 2048, (shapeCast S4096x2048 X shapeCasts_S2x2048x2048_S4096x2048 (ix2 n k) : EReal) * (U (ix2 k q) : EReal) : EReal) := by
  pointwise []

/-! ## The named values of the reference -/

section Values

variable (V : Valuation τ sig (Elt Ideal))

/-- The grid. -/
abbrev gridOf : S2048x12.Idx → EReal := V (Proc.devRef .tc main_arg1)

/-- The coefficients. -/
abbrev rawOf : S2048x12.Idx → EReal := V (Proc.devRef .tc main_arg2)

/-- The tangents. -/
abbrev tangentsOf : S2048x12.Idx → EReal := V (Proc.devRef .tc main_arg3)

/-- The rows of the input. -/
abbrev rowsOf : S4096x2048.Idx → EReal := shapeCast S4096x2048 (V (Proc.devRef .tc main_arg0)) shapeCasts_S2x2048x2048_S4096x2048

/-- The masked coefficients. -/
abbrev coefOf (l : Fin 2048) (k : Fin 12) : EReal :=
  maskedOf (V (Proc.devRef .tc main_arg2)) (V (Proc.devRef .tc main_arg4)) l k

variable (hG : ∀ (f : Fin 2048) (a b : Fin 12), a ≤ b → gridOf V (ix2 f a) ≤ gridOf V (ix2 f b))

include hG

theorem order_at (f : Fin 2048) (a : Fin 12) : res_main_v0 V (ix2 f a) = BitVec.ofNat 32 a.val :=
  (sorted_positions _ _ hG _).trans rfl

theorem positions1 (f : Fin 2048) (a : Fin 12) : res_main_call1_v5 V (ix3 f a 0) = BitVec.ofNat 32 a.val :=
  positions _ (order_at V hG) f a
theorem positions2 (f : Fin 2048) (a : Fin 12) : res_main_call2_v5 V (ix3 f a 0) = BitVec.ofNat 32 a.val :=
  positions _ (order_at V hG) f a
theorem positions3 (f : Fin 2048) (a : Fin 12) : res_main_call3_v5 V (ix3 f a 0) = BitVec.ofNat 32 a.val :=
  positions _ (order_at V hG) f a
theorem positions4 (f : Fin 2048) (a : Fin 12) : res_main_call4_v5 V (ix3 f a 0) = BitVec.ofNat 32 a.val :=
  positions _ (order_at V hG) f a

/-- The sorted grid is the grid. -/
theorem sorted_grid : res_main_v1 V = gridOf V :=
  take_id _ _ (positions1 V hG)

/-- The mask. -/
theorem mask_at (f : Fin 2048) (a : Fin 12) :
    res_main_v10 V (ix2 f a) = (mask ((V (Proc.devRef .tc main_arg4) : S2048x12.Idx → EReal) (ix2 f a)) : EReal) := by
  unfold res_main_v10
  rw [take_id _ _ (positions4 V hG)]
  generalize V (Proc.devRef .tc main_arg4) = A
  change S2048x12.Idx → EReal at A
  unfold mask
  pointwise [Host.divf, Host.exp, Host.negf]

/-- The coefficients at the sorted positions, masked. -/
theorem coef_at (f : Fin 2048) (a : Fin 12) : res_main_v11 V (ix2 f a) = (coefOf V f a : EReal) := by
  unfold res_main_v11
  rw [take_id _ _ (positions2 V hG)]
  exact congrArg (fun z : EReal => rawOf V (ix2 f a) * z) (mask_at V hG f a)

/-- The tangents are zero. -/
theorem tangent_at (hT : ∀ (f : Fin 2048) (a : Fin 12), tangentsOf V (ix2 f a) = 0)
    (f : Fin 2048) (a : Fin 12) : res_main_v12 V (ix2 f a) = (0 : EReal) := by
  unfold res_main_v12
  rw [take_id _ _ (positions3 V hG)]
  exact (congrArg (fun z : EReal => z * (res_main_v10 V (ix2 f a) : EReal)) (hT f a)).trans (zero_mul _)

/-- Where an entry lies on the uniform grid. -/
theorem pos_at (n : Fin 4096) (q : Fin 2048) :
    res_main_v33 V (ix2 n q) = (referencePos (rowsOf V (ix2 n q)) (gridOf V (ix2 q 0)) (gridOf V (ix2 q 11)) : EReal) := by
  unfold res_main_v33 res_main_v17 res_main_v15
  rw [sorted_grid V hG]
  show _ = (referencePos (shapeCast S4096x2048 (V (Proc.devRef .tc main_arg0)) shapeCasts_S2x2048x2048_S4096x2048 (ix2 n q)) _ _ : EReal)
  generalize shapeCast S4096x2048 (V (Proc.devRef .tc main_arg0)) shapeCasts_S2x2048x2048_S4096x2048 = X
  change S4096x2048.Idx → EReal at X
  unfold referencePos
  generalize gridOf V = G
  pointwise [Host.divf]
  rfl

omit hG

section Entry

variable (n : Fin 4096) (q : Fin 2048) (p : ℝ) (h0 : 0 ≤ p) (h11 : p ≤ 11)
    (hp : res_main_v33 V (ix2 n q) = ((p : ℝ) : EReal))

include h0 h11 hp

/-- The number of the piece. -/
theorem segment_at : res_main_v35 V (ix2 n q) = BitVec.ofNat 32 (segOf p).val := by
  unfold res_main_v35
  refine Eq.trans ?_ (Cert.KernelIdeal.Hand.trunc_seg p h0 h11)
  rw [← hp]
  generalize res_main_v33 V = X
  pointwise []
  rfl

/-- The number of the next one. -/
theorem next_at : res_main_v56 V (ix2 n q) = BitVec.ofNat 32 ((segOf p).val + 1) := by
  have h := segment_at V n q p h0 h11 hp
  unfold res_main_v56
  generalize res_main_v35 V = X at *
  pointwise []
  rw [h, BitVec.ofNat_add]
  rfl

/-- How far along the piece. -/
theorem along_at : res_main_v37 V (ix2 n q) = ((p : EReal) - (((segOf p).val : ℝ) : EReal) : EReal) := by
  have h := segment_at V n q p h0 h11 hp
  unfold res_main_v37
  generalize res_main_v35 V = X at *
  generalize res_main_v33 V = Y at *
  pointwise []
  rw [hp, h]
  show (p : EReal) - (((BitVec.ofNat 32 (segOf p).val).toInt : ℝ) : EReal) = _
  rw [Predicate.toInt_ofNat_small _ (by omega), Int.cast_natCast]

include hG

/-- The interpolated value at an entry. -/
theorem interp_at (hT : ∀ (f : Fin 2048) (a : Fin 12), tangentsOf V (ix2 f a) = 0) (a b : ℝ)
    (ha : coefOf V q (segOf p).castSucc = (a : EReal)) (hb : coefOf V q (segOf p).succ = (b : EReal)) :
    res_main_v165 V (ix2 n q)
      = ((coefOf V q (segOf p).castSucc : EReal)
          + ((Ideal.ofBits .f32 0x40400000#32
                - Ideal.ofBits .f32 0x40000000#32 * ((p : EReal) - (((segOf p).val : ℝ) : EReal)))
              * (((p : EReal) - (((segOf p).val : ℝ) : EReal)) * ((p : EReal) - (((segOf p).val : ℝ) : EReal))))
            * (coefOf V q (segOf p).succ - coefOf V q (segOf p).castSucc) : EReal) := by
  have hP : res_main_v39 V (ix2 0 q) = BitVec.ofNat 32 q.val := rfl
  have e1 := segment_at V n q p h0 h11 hp
  have e2 := next_at V n q p h0 h11 hp
  have et := along_at V n q p h0 h11 hp
  have g1 := (gather_pair (res_main_v11 V) (res_main_v39 V) (res_main_v35 V) n q (segOf p).castSucc hP e1).trans (coef_at V hG _ _)
  have g2 := (gather_pair (res_main_v11 V) (res_main_v39 V) (res_main_v56 V) n q (segOf p).succ hP e2).trans (coef_at V hG _ _)
  have g3 := (gather_pair (res_main_v12 V) (res_main_v39 V) (res_main_v35 V) n q (segOf p).castSucc hP e1).trans (tangent_at V hG hT _ _)
  have g4 := (gather_pair (res_main_v12 V) (res_main_v39 V) (res_main_v88 V) n q (segOf p).succ hP e2).trans (tangent_at V hG hT _ _)
  rw [ha, hb] at *
  unfold res_main_v165 res_main_v139 res_main_v138
  generalize res_main_v137 V = D
  generalize res_main_v37 V = T at *
  pointwise []
  rw [g1, g2, g3, g4, et, ← EReal.coe_sub]
  exact Cert.KernelIdeal.Hand.hermite _ a b _

end Entry

/-- The weights of the interpolated rows. -/
abbrev weightsOf : S2048x2048.Idx → EReal := V (Proc.devRef .tc main_arg5)

/-- The bias. -/
abbrev biasOf : S2048.Idx → EReal := V (Proc.devRef .tc main_arg6)

/-- The weights of the rows themselves. -/
abbrev directOf : S2048x2048.Idx → EReal := V (Proc.devRef .tc main_arg7)

/-- The interpolated rows. -/
abbrev interpOf : S4096x2048.Idx → EReal := res_main_v165 V

end Values

end Cert.ReferenceIdeal.Read

end
-- ==== Proof.Drawn.lean ====
/- What the precondition says: the grid ascends along each row and spans at least the clamp, the tangents are zero, the
   coefficients are finite. -/
module

public import proofs.«01_k».proof.Proof.Spline
public import proofs.«01_k».proof.Proof.Gen.Pre_drawn
public import Idealize.ShloMosaic.Lib.ReduceAll
public import Idealize.ShloMosaic.Lib.Pointwise
public import Idealize.ShloMosaic.Lib.IdealHost
public import Idealize.ShloMosaic.Lib.StableHlo.Predicate

@[expose] public section

noncomputable section

namespace Cert.Pre_drawn.Read

open Cert.Pre_drawn Cert.Pre_drawn.Gen
open Idealize.ShloMosaic Idealize.ShloMosaic.StableHlo
open Cert.KernelIdeal.Hand (eps)

instance : Subsingleton S_.Idx := ⟨fun _ _ => funext fun a => a.elim0⟩

/-- The precondition, decoded. -/
theorem decoded (x : FVec Ideal S2x2048x2048 .f32) (G C T A : FVec Ideal S2048x12 .f32) (W : FVec Ideal S2048x2048 .f32)
    (b : FVec Ideal S2048 .f32) (U : FVec Ideal S2048x2048 .f32) (h : fn (F := Ideal) x G C T A W b U = fun _ => 1#1) :
    (∀ (f : Fin 2048) (k : Fin 11), (G (ix2 f k.castSucc) : EReal) ≤ G (ix2 f k.succ))
      ∧ (∀ f : Fin 2048, eps ≤ (G (ix2 f 11) : EReal) - (G (ix2 f 0) : EReal))
      ∧ (∀ (f : Fin 2048) (k : Fin 12), (T (ix2 f k) : EReal) = 0)
      ∧ (∀ (f : Fin 2048) (k : Fin 12), max (C (ix2 f k) : EReal) (-(C (ix2 f k) : EReal)) < ⊤) := by
  have h0 := congrFun h ix0
  obtain ⟨h1, hC⟩ := IntOp.andi_eq_one.1 h0
  obtain ⟨h2, hT⟩ := IntOp.andi_eq_one.1 h1
  obtain ⟨hG, hE⟩ := IntOp.andi_eq_one.1 h2
  refine ⟨fun f k => ?_, fun f => ?_, fun f k => ?_, fun f k => ?_⟩
  · have e := Host.reduce_andi_all _ _ _ _ _ hG (ix2 f k)
    revert e
    pointwise []
    intro e
    rw [show (⟨1 + k.val, by omega⟩ : Fin 12) = k.succ from Fin.ext (Nat.add_comm ..)] at e
    exact of_decide_eq_true ((Predicate.ofBool_eq_one_iff _).1 e)
  · have e := Host.reduce_andi_all _ _ _ _ _ hE (ix1 f)
    revert e
    pointwise []
    intro e
    exact of_decide_eq_true ((Predicate.ofBool_eq_one_iff _).1 e)
  · have e := Host.reduce_andi_all _ _ _ _ _ hT (ix2 f k)
    revert e
    pointwise []
    intro e
    exact of_decide_eq_true ((Predicate.ofBool_eq_one_iff _).1 e)
  · have e := Host.reduce_andi_all _ _ _ _ _ hC (ix2 f k)
    revert e
    pointwise []
    intro e
    rw [Cert.KernelIdeal.Hand.top_word] at e
    exact of_decide_eq_true ((Predicate.ofBool_eq_one_iff _).1 e)

/-- Each row of the grid ascends. -/
theorem ascending (G : FVec Ideal S2048x12 .f32) (h : ∀ (f : Fin 2048) (k : Fin 11), (G (ix2 f k.castSucc) : EReal) ≤ G (ix2 f k.succ))
    (f : Fin 2048) (a b : Fin 12) (hab : a ≤ b) : (G (ix2 f a) : EReal) ≤ G (ix2 f b) :=
  (Fin.monotone_iff_le_succ (f := fun k : Fin 12 => (G (ix2 f k) : EReal))).2 (h f) hab

/-- A masked coefficient is a real number when the coefficient is finite. -/
theorem masked_real (C A : (⟨2, ![2048, 12]⟩ : Shape).Idx → EReal) (f : Fin 2048) (k : Fin 12) (h : max (C (ix2 f k)) (-(C (ix2 f k))) < ⊤) :
    ∃ a : ℝ, Cert.KernelIdeal.Hand.maskedOf C A f k = (a : EReal) := by
  obtain ⟨s, hs⟩ := Cert.KernelIdeal.Hand.mask_real (A (ix2 f k))
  have hc : ∃ r : ℝ, C (ix2 f k) = (r : EReal) := by
    revert h
    generalize C (ix2 f k) = z
    intro h
    induction z with
    | bot => simp at h
    | top => simp at h
    | coe r => exact ⟨r, rfl⟩
  obtain ⟨r, hr⟩ := hc
  exact ⟨r * s, by unfold Cert.KernelIdeal.Hand.maskedOf; rw [hr, hs, EReal.coe_mul]⟩

end Cert.Pre_drawn.Read

end
-- ==== Proof.Meet.lean ====
/- The idealized kernel and the reference leave the same array, under the precondition. -/
module

public import proofs.«01_k».proof.Proof.KValue
public import proofs.«01_k».proof.Proof.RValue
public import proofs.«01_k».proof.Proof.Drawn

@[expose] public section

noncomputable section

namespace Cert.Meet

open Idealize.ShloMosaic Idealize.ShloMosaic.TcCoe Idealize.ShloMosaic.StableHlo
open Cert.KernelIdeal.Hand (rows knots masked weights bias direct splineAt resultOf segOf pos_real kernelPos referencePos eps)
open Cert.ReferenceIdeal.Read (rowsOf gridOf coefOf tangentsOf weightsOf biasOf directOf interpOf)

variable (m : (ℓ : Loc Cert.KernelIdeal.nD Cert.KernelIdeal.τ Cert.KernelIdeal.sig) → Buf (Elt Ideal) ℓ) (c : Dev Cert.KernelIdeal.nD)
  (W : Valuation Cert.ReferenceIdeal.τ Cert.ReferenceIdeal.sig (Elt Ideal))

/-- The interpolated rows agree. -/
theorem interpolated (hG : ∀ (f : Fin 2048) (a b : Fin 12), a ≤ b → gridOf W (ix2 f a) ≤ gridOf W (ix2 f b))
    (hE : ∀ f : Fin 2048, eps ≤ gridOf W (ix2 f 11) - gridOf W (ix2 f 0))
    (hT : ∀ (f : Fin 2048) (a : Fin 12), tangentsOf W (ix2 f a) = 0)
    (hC : ∀ (f : Fin 2048) (a : Fin 12), ∃ r : ℝ, coefOf W f a = (r : EReal))
    (e0 : rowsOf W = rows m c) (e1 : gridOf W = knots m c) (e2 : coefOf W = masked m c) (n : Fin 4096) (l : Fin 2048) :
    interpOf W (ix2 n l) = splineAt m c n l := by
  obtain ⟨p, h0, h11, hk, hr⟩ := pos_real (rowsOf W (ix2 n l)) (gridOf W (ix2 l 0)) (gridOf W (ix2 l 11)) (hE l)
  obtain ⟨a, ha⟩ := hC l (segOf p).castSucc
  obtain ⟨b, hb⟩ := hC l (segOf p).succ
  refine (Cert.ReferenceIdeal.Read.interp_at W hG n l p h0 h11 ((Cert.ReferenceIdeal.Read.pos_at W hG n l).trans hr) hT a b ha hb).trans ?_
  rw [e0, e1] at hk
  rw [Cert.KernelIdeal.Hand.splineAt_eq m c n l p h0 hk, ← e2]

/-- The results agree at every entry. -/
theorem entry (hY : ∀ (n : Fin 4096) (l : Fin 2048), interpOf W (ix2 n l) = splineAt m c n l)
    (e0 : rowsOf W = rows m c) (e5 : weightsOf W = weights m c) (e6 : biasOf W = bias m c) (e7 : directOf W = direct m c)
    (n : Fin 4096) (q : Fin 2048) :
    ((∑ k : Fin 2048, interpOf W (ix2 n k) * weightsOf W (ix2 k q)) + biasOf W (ix1 q))
          + ∑ k : Fin 2048, rowsOf W (ix2 n k) * directOf W (ix2 k q) = (resultOf m c (ix2 n q) : EReal) := by
  rw [Cert.KernelIdeal.Hand.result_entry, e0, e5, e6, e7, add_right_comm]
  simp only [hY]

/-- The reference's array is the kernel's, when the arguments agree and the precondition holds. -/
theorem results (m' : (ℓ : Loc Cert.ReferenceIdeal.nD Cert.ReferenceIdeal.τ Cert.ReferenceIdeal.sig) → Buf (Elt Ideal) ℓ)
    (hpre : Cert.Pre_drawn.fn (F := Ideal) (m ((c.tc : Thread _ _).loc Cert.KernelIdeal.main_arg0)) (m ((c.tc : Thread _ _).loc Cert.KernelIdeal.main_arg1))
      (m ((c.tc : Thread _ _).loc Cert.KernelIdeal.main_arg2)) (m ((c.tc : Thread _ _).loc Cert.KernelIdeal.main_arg3))
      (m ((c.tc : Thread _ _).loc Cert.KernelIdeal.main_arg4)) (m ((c.tc : Thread _ _).loc Cert.KernelIdeal.main_arg5))
      (m ((c.tc : Thread _ _).loc Cert.KernelIdeal.main_arg6)) (m ((c.tc : Thread _ _).loc Cert.KernelIdeal.main_arg7)) = fun _ => 1#1)
    (hW : W = launchContents m' c)
    (h0 : m' ((c.tc : Thread _ _).loc Cert.ReferenceIdeal.main_arg0) = m ((c.tc : Thread _ _).loc Cert.KernelIdeal.main_arg0))
    (h1 : m' ((c.tc : Thread _ _).loc Cert.ReferenceIdeal.main_arg1) = m ((c.tc : Thread _ _).loc Cert.KernelIdeal.main_arg1))
    (h2 : m' ((c.tc : Thread _ _).loc Cert.ReferenceIdeal.main_arg2) = m ((c.tc : Thread _ _).loc Cert.KernelIdeal.main_arg2))
    (h3 : m' ((c.tc : Thread _ _).loc Cert.ReferenceIdeal.main_arg3) = m ((c.tc : Thread _ _).loc Cert.KernelIdeal.main_arg3))
    (h4 : m' ((c.tc : Thread _ _).loc Cert.ReferenceIdeal.main_arg4) = m ((c.tc : Thread _ _).loc Cert.KernelIdeal.main_arg4))
    (h5 : m' ((c.tc : Thread _ _).loc Cert.ReferenceIdeal.main_arg5) = m ((c.tc : Thread _ _).loc Cert.KernelIdeal.main_arg5))
    (h6 : m' ((c.tc : Thread _ _).loc Cert.ReferenceIdeal.main_arg6) = m ((c.tc : Thread _ _).loc Cert.KernelIdeal.main_arg6))
    (h7 : m' ((c.tc : Thread _ _).loc Cert.ReferenceIdeal.main_arg7) = m ((c.tc : Thread _ _).loc Cert.KernelIdeal.main_arg7))
    (n : Fin 4096) (q : Fin 2048) :
    ((∑ k : Fin 2048, interpOf W (ix2 n k) * weightsOf W (ix2 k q)) + biasOf W (ix1 q))
          + ∑ k : Fin 2048, rowsOf W (ix2 n k) * directOf W (ix2 k q) = (resultOf m c (ix2 n q) : EReal) := by
  subst hW
  obtain ⟨hG, hE, hT, hC⟩ := Cert.Pre_drawn.Read.decoded _ _ _ _ _ _ _ _ hpre
  have e0 : rowsOf (launchContents m' c) = rows m c :=
    congrArg (fun x : FVec Ideal Cert.KernelIdeal.S2x2048x2048 .f32 => shapeCast Cert.KernelIdeal.S4096x2048 x
      Cert.KernelIdeal.Gen.shapeCasts_S2x2048x2048_S4096x2048) h0
  have e1 : gridOf (launchContents m' c) = knots m c := h1
  have e2 : coefOf (launchContents m' c) = masked m c := by
    have a2 : (launchContents m' c (Proc.devRef .tc Cert.ReferenceIdeal.main_arg2) : Cert.ReferenceIdeal.S2048x12.Idx → EReal)
      = m ((c.tc : Thread _ _).loc Cert.KernelIdeal.main_arg2) := h2
    have a4 : (launchContents m' c (Proc.devRef .tc Cert.ReferenceIdeal.main_arg4) : Cert.ReferenceIdeal.S2048x12.Idx → EReal)
      = m ((c.tc : Thread _ _).loc Cert.KernelIdeal.main_arg4) := h4
    exact congrArg₂ Cert.KernelIdeal.Hand.maskedOf a2 a4
  have e3 : tangentsOf (launchContents m' c) = m ((c.tc : Thread _ _).loc Cert.KernelIdeal.main_arg3) := h3
  refine entry m c _ (interpolated m c _ ?_ ?_ ?_ ?_ e0 e1 e2) e0 h5 h6 h7 n q
  · rw [e1]
    exact Cert.Pre_drawn.Read.ascending _ hG
  · rw [e1]
    exact hE
  · rw [e3]
    exact hT
  · rw [e2]
    exact fun f a => Cert.Pre_drawn.Read.masked_real _ _ f a (hC f a)

end Cert.Meet

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_drawn
public import proofs.«01_k».proof.Proof.KFrame
public import proofs.«01_k».proof.Proof.PFrame
public import proofs.«01_k».proof.Proof.Meet
public import Idealize.ShloMosaic.Lib.Bf16Pair
public import Idealize.ShloMosaic.Lib.Quiescent
public import Idealize.ShloMosaic.Adequacy
public import Idealize.ShloMosaic.Init

@[expose] public section

noncomputable section

namespace Cert.Proof

open Idealize.ShloMosaic Idealize.SL.Sem Idealize.ShloMosaic.TcCoe Idealize.ShloMosaic.StableHlo

/-- Reading a two-axis index off its coordinates. -/
theorem index_pair (j : (⟨2, ![4096, 2048]⟩ : Shape).Idx) : ∃ (n : Fin 4096) (q : Fin 2048), j = ix2 n q :=
  ⟨j 0, j 1, funext fun b => match b with
    | ⟨0, _⟩ => rfl
    | ⟨1, _⟩ => rfl⟩

/-- The reference keeps its arguments, and it has no counter to leave raised. -/
theorem reference_frame : Cert.quiescent_ReferenceIdeal := fun m g _ =>
  (θ_run _ _ _).mono (fun _ h => ⟨fun c => (h c).2, sem_eq_zero_of_no_sems rfl _⟩) (Cert.ReferenceIdeal.Value.run (F := Ideal) m g)

/-- Under the precondition the idealized kernel and the reference leave equal results. -/
theorem values : Cert.algebraic_KernelIdeal_ReferenceIdeal_pre_drawn := fun m g m' g' hpre hargs =>
  ⟨fun c => Cert.KernelIdeal.Hand.resultOf m c,
    (θ_run _ _ _).mono (fun _ h c => ⟨(h c).1.trans (Cert.KernelIdeal.Hand.arr_result m c), (h c).2⟩)
      (Cert.KernelIdeal.Hand.run_result (F := Ideal) m g),
    (θ_run _ _ _).mono (fun _ h c => ⟨(h c).1.trans (by
        obtain ⟨h0, h1, h2, h3, h4, h5, h6, h7⟩ := hargs c
        funext j
        obtain ⟨n, q, rfl⟩ := index_pair j
        exact (Cert.ReferenceIdeal.Read.products_at _ _ _ _ _ n q).trans
          (Cert.Meet.results m c _ m' (hpre c) rfl h0 h1 h2 h3 h4 h5 h6 h7 n q)), (h c).2⟩)
      (Cert.ReferenceIdeal.Value.run (F := Ideal) m' g')⟩

theorem claim : Cert.Claim :=
  ⟨Cert.Kernel.Gen.facts, Cert.KernelIdeal.Gen.facts, Cert.ReferenceIdeal.Gen.facts, Cert.Pre_drawn.Gen.facts,
    fun m g _ => Cert.Kernel.Hand.frame m g,
    fun m g _ => Cert.KernelIdeal.Hand.frame m g,
    fun m g _ => Cert.KernelIdeal.Hand.frame m g,
    reference_frame,
    fun m g _ => reference_frame m g trivial,
    ⟨IdealRules.bf16_pair.halfStatement _, IdealRules.bf16_pair.statement _ _ (by decide)⟩,
    values⟩

end Cert.Proof

end
